-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![512]⟩ ⟨1, ![1024]⟩ (Layout.meshBlock [2, 2] ![[1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![4, 512, 1024]⟩ (Layout.meshBlock [2, 2] ![[1], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![4, 1024, 512]⟩ (Layout.meshBlock [2, 2] ![[1], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![512, 512]⟩ ⟨2, ![1024, 512]⟩ (Layout.meshBlock [2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v57) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512 : Shape := ⟨1, ![512]⟩
abbrev S2x512x1024 : Shape := ⟨3, ![2, 512, 1024]⟩
abbrev S2x1024x512 : Shape := ⟨3, ![2, 1024, 512]⟩
abbrev S512x1 : Shape := ⟨2, ![512, 1]⟩
abbrev S256x512 : Shape := ⟨2, ![256, 512]⟩
abbrev S256x1 : Shape := ⟨2, ![256, 1]⟩
abbrev S7 : Shape := ⟨1, ![7]⟩
abbrev S_ : Shape := ⟨0, ![]⟩
abbrev S1 : Shape := ⟨1, ![1]⟩
abbrev S128x512 : Shape := ⟨2, ![128, 512]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩
abbrev S128x1 : Shape := ⟨2, ![128, 1]⟩
abbrev S128x1024 : Shape := ⟨2, ![128, 1024]⟩

abbrev nBuf : Space → Nat
  | .hbm => 6
  | .vmem => 14
  | .smem => 0
  | _ => 0

abbrev bufTy : (tb : Table) → Fin (tcTables nBuf tb) → BufTy
  | .hbm, ⟨0, _⟩ => ⟨S512x512, .bf16⟩
  | .hbm, ⟨1, _⟩ => ⟨S512, .i32⟩
  | .hbm, ⟨2, _⟩ => ⟨S2x512x1024, .bf16⟩
  | .hbm, ⟨3, _⟩ => ⟨S2x1024x512, .bf16⟩
  | .hbm, ⟨4, _⟩ => ⟨S512x1, .i32⟩
  | .hbm, ⟨5, _⟩ => ⟨S512x512, .f32⟩
  | .local _ .vmem, ⟨0, _⟩ => ⟨S512x512, .bf16⟩
  | .local _ .vmem, ⟨1, _⟩ => ⟨S512x1, .i32⟩
  | .local _ .vmem, ⟨2, _⟩ => ⟨S2x512x1024, .bf16⟩
  | .local _ .vmem, ⟨3, _⟩ => ⟨S2x1024x512, .bf16⟩
  | .local _ .vmem, ⟨4, _⟩ => ⟨S512x512, .f32⟩
  | .local _ .vmem, ⟨5, _⟩ => ⟨S512x512, .bf16⟩
  | .local _ .vmem, ⟨6, _⟩ => ⟨S256x512, .bf16⟩
  | .local _ .vmem, ⟨7, _⟩ => ⟨S512x1, .i32⟩
  | .local _ .vmem, ⟨8, _⟩ => ⟨S256x1, .i32⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S2x512x1024, .bf16⟩
  | .local _ .vmem, ⟨13, _⟩ => ⟨S2x1024x512, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7 : BitVec 32 := 2#32
  let v12 : BitVec 32 := Scalar.muli v2 c2_i32_7
  let v13 : BitVec 32 := Scalar.addi c0_i32 v12
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_8 : BitVec 32 := 1#32
  let v14 : BitVec 32 := Scalar.muli v6 c1_i32_8
  let v15 : BitVec 32 := Scalar.addi v13 v14
  v15.toNat
def k0_dev2 (d0 : Dev nD) : Nat :=
  let c0_i32_11 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_10 : BitVec 32 := 2#32
  let v16 : BitVec 32 := Scalar.muli v7 c2_i32_10
  let v17 : BitVec 32 := Scalar.addi c0_i32_11 v16
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_12 : BitVec 32 := 1#32
  let v18 : BitVec 32 := Scalar.muli v5 c1_i32_12
  let v19 : BitVec 32 := Scalar.addi v17 v18
  v19.toNat
def k0_off1 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v8 : BitVec 32 := Scalar.muli v2 c256_i32
  let c0_i32_26 : BitVec 32 := 0#32
  ![v8.toNat, 0]
def k0_dev3 (d0 : Dev nD) : Nat :=
  let c0_i32_24 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_23 : BitVec 32 := 2#32
  let v30 : BitVec 32 := Scalar.muli v2 c2_i32_23
  let v31 : BitVec 32 := Scalar.addi c0_i32_24 v30
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_25 : BitVec 32 := 1#32
  let v32 : BitVec 32 := Scalar.muli v6 c1_i32_25
  let v33 : BitVec 32 := Scalar.addi v31 v32
  v33.toNat
def k0_off2 (d0 : Dev nD) (c0_i32_27 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v8 : BitVec 32 := Scalar.muli v2 c256_i32
  let v39 : BitVec 32 := Scalar.addi v8 c0_i32_27
  let c0_i32_35 : BitVec 32 := 0#32
  ![v39.toNat, 0]
def k0_dev4 (d0 : Dev nD) : Nat :=
  let c0_i32_31 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_30 : BitVec 32 := 2#32
  let v40 : BitVec 32 := Scalar.muli v2 c2_i32_30
  let v41 : BitVec 32 := Scalar.addi c0_i32_31 v40
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_32 : BitVec 32 := 1#32
  let v42 : BitVec 32 := Scalar.muli v6 c1_i32_32
  let v43 : BitVec 32 := Scalar.addi v41 v42
  v43.toNat
def k0_dev5 (d0 : Dev nD) : Nat :=
  let c0_i32_39 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_38 : BitVec 32 := 2#32
  let v51 : BitVec 32 := Scalar.muli v2 c2_i32_38
  let v52 : BitVec 32 := Scalar.addi c0_i32_39 v51
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_40 : BitVec 32 := 1#32
  let v53 : BitVec 32 := Scalar.muli v6 c1_i32_40
  let v54 : BitVec 32 := Scalar.addi v52 v53
  v54.toNat
def k0_dev6 (d0 : Dev nD) : Nat :=
  let c0_i32_142 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_141 : BitVec 32 := 2#32
  let v177 : BitVec 32 := Scalar.muli v2 c2_i32_141
  let v178 : BitVec 32 := Scalar.addi c0_i32_142 v177
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_143 : BitVec 32 := 1#32
  let v179 : BitVec 32 := Scalar.muli v6 c1_i32_143
  let v180 : BitVec 32 := Scalar.addi v178 v179
  v180.toNat
def k0_dev7 (d0 : Dev nD) : Nat :=
  let c0_i32_194 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_193 : BitVec 32 := 2#32
  let v242 : BitVec 32 := Scalar.muli v2 c2_i32_193
  let v243 : BitVec 32 := Scalar.addi c0_i32_194 v242
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_195 : BitVec 32 := 1#32
  let v244 : BitVec 32 := Scalar.muli v6 c1_i32_195
  let v245 : BitVec 32 := Scalar.addi v243 v244
  v245.toNat
def k0_dev8 (d0 : Dev nD) : Nat :=
  let c0_i32_218 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_217 : BitVec 32 := 2#32
  let v264 : BitVec 32 := Scalar.muli v7 c2_i32_217
  let v265 : BitVec 32 := Scalar.addi c0_i32_218 v264
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_219 : BitVec 32 := 1#32
  let v266 : BitVec 32 := Scalar.muli v5 c1_i32_219
  let v267 : BitVec 32 := Scalar.addi v265 v266
  v267.toNat
def k0_off3 (d0 : Dev nD) (c0_i32_224 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v8 : BitVec 32 := Scalar.muli v2 c256_i32
  let v274 : BitVec 32 := Scalar.addi v8 c0_i32_224
  let v275 : Index := Scalar.indexCast v274
  let c0_225 : Index := 0#32
  ![v275.toNat, 0]
def k0_dev9 (d0 : Dev nD) : Nat :=
  let c0_i32_247 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_246 : BitVec 32 := 2#32
  let v295 : BitVec 32 := Scalar.muli v7 c2_i32_246
  let v296 : BitVec 32 := Scalar.addi c0_i32_247 v295
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_248 : BitVec 32 := 1#32
  let v297 : BitVec 32 := Scalar.muli v5 c1_i32_248
  let v298 : BitVec 32 := Scalar.addi v296 v297
  v298.toNat
def k0_off4 (d0 : Dev nD) (c0_i32_274 : BitVec 32) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c256_i32_5 : BitVec 32 := 256#32
  let v10 : BitVec 32 := Scalar.muli v9 c256_i32_5
  let v326 : BitVec 32 := Scalar.addi v10 c0_i32_274
  let v327 : Index := Scalar.indexCast v326
  let c0_275 : Index := 0#32
  ![v327.toNat, 0]
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x512 : Shape := ⟨2, ![1024, 512]⟩
abbrev S1024 : Shape := ⟨1, ![1024]⟩
abbrev S4x512x1024 : Shape := ⟨3, ![4, 512, 1024]⟩
abbrev S4x1024x512 : Shape := ⟨3, ![4, 1024, 512]⟩
abbrev S_ : Shape := ⟨0, ![]⟩
abbrev S1x512x1024 : Shape := ⟨3, ![1, 512, 1024]⟩
abbrev S512x1024 : Shape := ⟨2, ![512, 1024]⟩
abbrev S1024x1024 : Shape := ⟨2, ![1024, 1024]⟩
abbrev S1024x1 : Shape := ⟨2, ![1024, 1]⟩
abbrev S1x1024x512 : Shape := ⟨3, ![1, 1024, 512]⟩

abbrev nBuf : Space → Nat
  | .hbm => 75
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S1024, .i32⟩
  | .hbm, ⟨2, _⟩ => ⟨S4x512x1024, .bf16⟩
  | .hbm, ⟨3, _⟩ => ⟨S4x1024x512, .bf16⟩
  | .hbm, ⟨4, _⟩ => ⟨S1024x512, .f32⟩
  | .hbm, ⟨5, _⟩ => ⟨S_, .f32⟩
  | .hbm, ⟨6, _⟩ => ⟨S1024x512, .f32⟩
  | .hbm, ⟨7, _⟩ => ⟨S1x512x1024, .bf16⟩
  | .hbm, ⟨8, _⟩ => ⟨S512x1024, .bf16⟩
  | .hbm, ⟨9, _⟩ => ⟨S512x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S1024x1, .i1⟩
  | .hbm, ⟨18, _⟩ => ⟨S1x1024x512, .bf16⟩
  | .hbm, ⟨19, _⟩ => ⟨S1024x512, .bf16⟩
  | .hbm, ⟨20, _⟩ => ⟨S1024x512, .f32⟩
  | .hbm, ⟨21, _⟩ => ⟨S1024x512, .f32⟩
  | .hbm, ⟨22, _⟩ => ⟨S1024x512, .i1⟩
  | .hbm, ⟨23, _⟩ => ⟨S1024x512, .f32⟩
  | .hbm, ⟨24, _⟩ => ⟨S1x512x1024, .bf16⟩
  | .hbm, ⟨25, _⟩ => ⟨S512x1024, .bf16⟩
  | .hbm, ⟨26, _⟩ => ⟨S512x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S_, .i32⟩
  | .hbm, ⟨32, _⟩ => ⟨S1024, .i32⟩
  | .hbm, ⟨33, _⟩ => ⟨S1024, .i1⟩
  | .hbm, ⟨34, _⟩ => ⟨S1024x1, .i1⟩
  | .hbm, ⟨35, _⟩ => ⟨S1x1024x512, .bf16⟩
  | .hbm, ⟨36, _⟩ => ⟨S1024x512, .bf16⟩
  | .hbm, ⟨37, _⟩ => ⟨S1024x512, .f32⟩
  | .hbm, ⟨38, _⟩ => ⟨S1024x512, .f32⟩
  | .hbm, ⟨39, _⟩ => ⟨S1024x512, .i1⟩
  | .hbm, ⟨40, _⟩ => ⟨S1024x512, .f32⟩
  | .hbm, ⟨41, _⟩ => ⟨S1x512x1024, .bf16⟩
  | .hbm, ⟨42, _⟩ => ⟨S512x1024, .bf16⟩
  | .hbm, ⟨43, _⟩ => ⟨S512x1024, .f32⟩
  | .hbm, ⟨44, _⟩ => ⟨S1024x1024, .f32⟩
  | .hbm, ⟨45, _⟩ => ⟨S_, .f32⟩
  | .hbm, ⟨46, _⟩ => ⟨S1024x1024, .f32⟩
  | .hbm, ⟨47, _⟩ => ⟨S1024x1024, .f32⟩
  | .hbm, ⟨48, _⟩ => ⟨S_, .i32⟩
  | .hbm, ⟨49, _⟩ => ⟨S1024, .i32⟩
  | .hbm, ⟨50, _⟩ => ⟨S1024, .i1⟩
  | .hbm, ⟨51, _⟩ => ⟨S1024x1, .i1⟩
  | .hbm, ⟨52, _⟩ => ⟨S1x1024x512, .bf16⟩
  | .hbm, ⟨53, _⟩ => ⟨S1024x512, .bf16⟩
  | .hbm, ⟨54, _⟩ => ⟨S1024x512, .f32⟩
  | .hbm, ⟨55, _⟩ => ⟨S1024x512, .f32⟩
  | .hbm, ⟨56, _⟩ => ⟨S1024x512, .i1⟩
  | .hbm, ⟨57, _⟩ => ⟨S1024x512, .f32⟩
  | .hbm, ⟨58, _⟩ => ⟨S1x512x1024, .bf16⟩
  | .hbm, ⟨59, _⟩ => ⟨S512x1024, .bf16⟩
  | .hbm, ⟨60, _⟩ => ⟨S512x1024, .f32⟩
  | .hbm, ⟨61, _⟩ => ⟨S1024x1024, .f32⟩
  | .hbm, ⟨62, _⟩ => ⟨S_, .f32⟩
  | .hbm, ⟨63, _⟩ => ⟨S1024x1024, .f32⟩
  | .hbm, ⟨64, _⟩ => ⟨S1024x1024, .f32⟩
  | .hbm, ⟨65, _⟩ => ⟨S_, .i32⟩
  | .hbm, ⟨66, _⟩ => ⟨S1024, .i32⟩
  | .hbm, ⟨67, _⟩ => ⟨S1024, .i1⟩
  | .hbm, ⟨68, _⟩ => ⟨S1024x1, .i1⟩
  | .hbm, ⟨69, _⟩ => ⟨S1x1024x512, .bf16⟩
  | .hbm, ⟨70, _⟩ => ⟨S1024x512, .bf16⟩
  | .hbm, ⟨71, _⟩ => ⟨S1024x512, .f32⟩
  | .hbm, ⟨72, _⟩ => ⟨S1024x512, .f32⟩
  | .hbm, ⟨73, _⟩ => ⟨S1024x512, .i1⟩
  | .hbm, ⟨74, _⟩ => ⟨S1024x512, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call1_v0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_c_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_call2_v0 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_c_6 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_call3_v0 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== Proof.Contents.lean ====
/-
The buffers of the kernel, and what each of them holds.

The mesh is 2 x 2; device `c` is `2 * x + y`. Rows of the tokens and experts are split over `y`; the two devices of one
`y` hold the same blocks. Device `c` sends half of its rows to its `y` peer, which runs its own two experts on them
and sends the sums back; what came back is forwarded to the `x` peer, which holds the same rows.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Tactic

@[expose] public section

noncomputable section

namespace Cert.Moe

open Cert.KernelIdeal Cert.KernelIdeal.Gen
open Idealize.ShloMosaic
open Idealize.ShloMosaic.TcCoe

variable {F : FTy → Type} [FloatOps F]

/-! ## The peers -/

/-- The device of the same `x` and the other `y`: it holds the other rows and the other experts. -/
def yp (c : Dev nD) : Dev nD := ⟨2 * (c.val / 2) + 1 - c.val % 2, by have := c.isLt; unfold nD at this ⊢; omega⟩
/-- The device of the same `y` and the other `x`: it holds the same rows and the same experts. -/
def xp (c : Dev nD) : Dev nD := ⟨c.val % 2 + 2 - 2 * (c.val / 2), by have := c.isLt; unfold nD at this ⊢; omega⟩

theorem yp_yp (c : Dev nD) : yp (yp c) = c := by revert c; decide
theorem xp_xp (c : Dev nD) : xp (xp c) = c := by revert c; decide
theorem yp_ne (c : Dev nD) : yp c ≠ c := by revert c; decide
theorem yp_ne_xp (c : Dev nD) : yp c ≠ xp c := by revert c; decide
theorem yp_half (c : Dev nD) : (yp c).val / 2 = c.val / 2 := by revert c; decide
theorem xp_half (c : Dev nD) : (xp c).val / 2 = 1 - c.val / 2 := by revert c; decide
theorem yp_mod (c : Dev nD) : (yp c).val % 2 = 1 - c.val % 2 := by revert c; decide
theorem xp_mod (c : Dev nD) : (xp c).val % 2 = c.val % 2 := by revert c; decide

theorem dev1_eq (c : Dev nD) : (⟨k0_dev1 c, k0_dev1_lt c⟩ : Dev nD) = yp c := Fin.ext (k0_dev1_eq c)
theorem dev2_eq (c : Dev nD) : (⟨k0_dev2 c, k0_dev2_lt c⟩ : Dev nD) = xp c := Fin.ext (k0_dev2_eq c)
theorem dev3_eq (c : Dev nD) : (⟨k0_dev3 c, k0_dev3_lt c⟩ : Dev nD) = yp c := Fin.ext (k0_dev3_eq c)
theorem dev4_eq (c : Dev nD) : (⟨k0_dev4 c, k0_dev4_lt c⟩ : Dev nD) = yp c := Fin.ext (k0_dev4_eq c)
theorem dev5_eq (c : Dev nD) : (⟨k0_dev5 c, k0_dev5_lt c⟩ : Dev nD) = yp c := Fin.ext (k0_dev5_eq c)
theorem dev6_eq (c : Dev nD) : (⟨k0_dev6 c, k0_dev6_lt c⟩ : Dev nD) = yp c := Fin.ext (k0_dev6_eq c)
theorem dev7_eq (c : Dev nD) : (⟨k0_dev7 c, k0_dev7_lt c⟩ : Dev nD) = yp c := Fin.ext (k0_dev7_eq c)
theorem dev8_eq (c : Dev nD) : (⟨k0_dev8 c, k0_dev8_lt c⟩ : Dev nD) = xp c := Fin.ext (k0_dev8_eq c)
theorem dev9_eq (c : Dev nD) : (⟨k0_dev9 c, k0_dev9_lt c⟩ : Dev nD) = xp c := Fin.ext (k0_dev9_eq c)

/-! ## The buffers -/

/-- The staged blocks: tokens, assignment, the two weight blocks, the output. -/
abbrev i0M : Memref sig .tc .vmem S512x512 .bf16 := Memref.whole cc0_stg0_0
abbrev i1M : Memref sig .tc .vmem S512x1 .i32 := Memref.whole cc0_stg1_0
abbrev i2M : Memref sig .tc .vmem S2x512x1024 .bf16 := Memref.whole cc0_stg2_0
abbrev i3M : Memref sig .tc .vmem S2x1024x512 .bf16 := Memref.whole cc0_stg3_0
abbrev ouM : Memref sig .tc .vmem S512x512 .f32 := Memref.whole cc0_stg4_0
/-- The tokens to send, the tokens received. -/
abbrev xsM : Memref sig .tc .vmem S512x512 .bf16 := Memref.whole cc0_scratch0
abbrev xrM : Memref sig .tc .vmem S256x512 .bf16 := Memref.whole cc0_scratch1
/-- The assignment to send, the assignment received. -/
abbrev asM : Memref sig .tc .vmem S512x1 .i32 := Memref.whole cc0_scratch2
abbrev arM : Memref sig .tc .vmem S256x1 .i32 := Memref.whole cc0_scratch3
/-- The sums to send back; the sums that came back; the sums forwarded by the `x` peer. -/
abbrev csM : Memref sig .tc .vmem S256x512 .bf16 := Memref.whole cc0_scratch4
abbrev cdM : Memref sig .tc .vmem S256x512 .bf16 := Memref.whole cc0_scratch5
abbrev cfM : Memref sig .tc .vmem S256x512 .bf16 := Memref.whole cc0_scratch6
/-- The weights. -/
abbrev w1M : Memref sig .tc .vmem S2x512x1024 .bf16 := Memref.whole cc0_scratch7
abbrev w2M : Memref sig .tc .vmem S2x1024x512 .bf16 := Memref.whole cc0_scratch8

/-! ## The rectangles -/

/-- The two chunks of 128 rows of a 256-row buffer. -/
abbrev R0 : Rect S256x512 := Rect.unit (s := S256x512) ![0, 0] S128x512.size inb_S256x512_S128x512_0_0
abbrev R1 : Rect S256x512 := Rect.unit (s := S256x512) ![128, 0] S128x512.size inb_S256x512_S128x512_128_0
/-- The two halves of the assignment received. -/
abbrev A0 : Rect S256x1 := Rect.unit (s := S256x1) ![0, 0] S128x1.size inb_S256x1_S128x1_0_0
abbrev A1 : Rect S256x1 := Rect.unit (s := S256x1) ![128, 0] S128x1.size inb_S256x1_S128x1_128_0
/-- The two experts of a weight block. -/
abbrev E10 : Rect S2x512x1024 := Rect.unit (s := S2x512x1024) ![0, 0, 0] S1x512x1024.size inb_S2x512x1024_S1x512x1024_0_0_0
abbrev E11 : Rect S2x512x1024 := Rect.unit (s := S2x512x1024) ![1, 0, 0] S1x512x1024.size inb_S2x512x1024_S1x512x1024_1_0_0
abbrev E20 : Rect S2x1024x512 := Rect.unit (s := S2x1024x512) ![0, 0, 0] S1x1024x512.size inb_S2x1024x512_S1x1024x512_0_0_0
abbrev E21 : Rect S2x1024x512 := Rect.unit (s := S2x1024x512) ![1, 0, 0] S1x1024x512.size inb_S2x1024x512_S1x1024x512_1_0_0
/-- The half of the assignment sent, and the two chunks of the tokens sent. -/
abbrev SA (c : Dev nD) : Rect S512x1 := Rect.unit (s := S512x1) (k0_off1 c) S256x1.size (k0_off1_inb c)
abbrev X0 (c : Dev nD) : Rect S512x512 := Rect.unit (s := S512x512) (k0_off2 c 0#32) S128x512.size (k0_off2_inb c 0)
abbrev X1 (c : Dev nD) : Rect S512x512 := Rect.unit (s := S512x512) (k0_off2 c 128#32) S128x512.size (k0_off2_inb c 1)
/-- The chunks of the output that sums are added to: two of the own half, two of the other. -/
abbrev O0 (c : Dev nD) : Rect S512x512 := Rect.unit (s := S512x512) (k0_off3 c 0#32) S128x512.size (k0_off3_inb c 0)
abbrev O1 (c : Dev nD) : Rect S512x512 := Rect.unit (s := S512x512) (k0_off3 c 128#32) S128x512.size (k0_off3_inb c 1)
abbrev O2 (c : Dev nD) : Rect S512x512 := Rect.unit (s := S512x512) (k0_off4 c 0#32) S128x512.size (k0_off4_inb c 0)
abbrev O3 (c : Dev nD) : Rect S512x512 := Rect.unit (s := S512x512) (k0_off4 c 128#32) S128x512.size (k0_off4_inb c 1)

/-- The rows of the `y` peer's tokens that device `c` receives. -/
abbrev XB (c : Dev nD) : Rect S512x512 := Rect.unit (s := S512x512) ![256 * (c.val / 2), 0] S256x512.size
  (by have := c.isLt; unfold nD at this; intro a; fin_cases a
      · show 256 * (c.val / 2) + 256 ≤ 512; omega
      · show 0 + 512 ≤ 512; omega)

/-! ## The contents -/

/-- The blocks of the four inputs, one of each for every device. -/
structure Blocks (F : FTy → Type) where
  x : Dev nD → Vec F S512x512 .bf16
  a : Dev nD → Vec F S512x1 .i32
  w1 : Dev nD → Vec F S2x512x1024 .bf16
  w2 : Dev nD → Vec F S2x1024x512 .bf16

variable (B : Blocks F) (c : Dev nD)

/-- The word `my_y` of device `c`. -/
abbrev w5 (c : Dev nD) : BitVec 32 := Scalar.remsi (Scalar.divsi (Dev.word c) 1#32) 2#32

def xs : Vec F S512x512 .bf16 := k0_pay2 (B.x c)
def asnd : Vec F S512x1 .i32 := k0_pay4 (k0_pay3 (B.a c))
def w1b : Vec F S2x512x1024 .bf16 := k0_pay5 (B.w1 c)
def w2b : Vec F S2x1024x512 .bf16 := k0_pay6 (B.w2 c)
/-- The assignment received: the `y` peer's half. -/
def arcv : Vec F S256x1 .i32 := fun i => asnd B (yp c) ((SA (yp c)).emb i)
/-- The tokens received: the `y` peer's half. -/
def xr : Vec F S256x512 .bf16 := fun i => xs B (yp c) ((XB c).emb i)

/-- Experts 0 and 1 of the weights, as loaded. -/
def l10 : Vec F S1x512x1024 .bf16 := w1M.view.readAt (Elt F) E10.toLoadRect (w1b B c)
def l11 : Vec F S1x512x1024 .bf16 := w1M.view.readAt (Elt F) E11.toLoadRect (w1b B c)
def l20 : Vec F S1x1024x512 .bf16 := w2M.view.readAt (Elt F) E20.toLoadRect (w2b B c)
def l21 : Vec F S1x1024x512 .bf16 := w2M.view.readAt (Elt F) E21.toLoadRect (w2b B c)
/-- The two chunks of what was received, as loaded. -/
def lx0 : Vec F S128x512 .bf16 := xrM.view.readAt (Elt F) R0.toLoadRect (xr B c)
def lx1 : Vec F S128x512 .bf16 := xrM.view.readAt (Elt F) R1.toLoadRect (xr B c)
def la0 : Vec F S128x1 .i32 := arM.view.readAt (Elt F) A0.toLoadRect (arcv B c)
def la1 : Vec F S128x1 .i32 := arM.view.readAt (Elt F) A1.toLoadRect (arcv B c)

/-- The sums of the own experts on the two chunks received. -/
def cs0 : Vec F S128x512 .bf16 :=
  k0_pay15 (w5 c) (lx0 B c) (la0 B c) k0_pay12 (k0_pay13 (lx0 B c) (l10 B c) (l20 B c)) (k0_pay14 (w5 c) (la0 B c)) (l11 B c) (l21 B c)
def cs1 : Vec F S128x512 .bf16 :=
  k0_pay19 (w5 c) (lx1 B c) (la1 B c) k0_pay16 (Scalar.addi (Scalar.muli (w5 c) 2#32) 0#32) (k0_pay17 (lx1 B c) (l10 B c)) (k0_pay18 (l20 B c))
    (constant S128x512 .f32 0x00000000#32) (l11 B c) (l21 B c)
/-- The sums to send back: the first chunk's, then the second's. -/
def cs : Vec F S256x512 .bf16 :=
  (csM.access R1).write (Elt F) ((csM.access R0).write (Elt F) (xr B c) (cs0 B c) Finset.univ) (cs1 B c) Finset.univ
/-- The sums that came back, and those forwarded. -/
def crd : Vec F S256x512 .bf16 := cs B (yp c)
def crf : Vec F S256x512 .bf16 := crd B (xp c)

/-- The output: the own experts' sums, then four chunks of the other experts' added. -/
def o0 : Vec F S512x512 .f32 :=
  k0_pay11 (w5 c) (xs B c) (k0_pay7 (B.a c)) (k0_pay8 (F := F)) (k0_pay9 (xs B c) (l10 B c) (l20 B c)) (Scalar.ofBits .f32 0x00000000#32)
    (k0_pay10 (w5 c) (B.a c)) (l11 B c) (l21 B c)
def o1 : Vec F S512x512 .f32 :=
  (ouM.access (O0 c)).write (Elt F) (o0 B c)
    (k0_pay20 (ouM.view.readAt (Elt F) (O0 c).toLoadRect (o0 B c)) (cdM.view.readAt (Elt F) R0.toLoadRect (crd B c))) Finset.univ
def o2 : Vec F S512x512 .f32 :=
  (ouM.access (O1 c)).write (Elt F) (o1 B c)
    (k0_pay21 (ouM.view.readAt (Elt F) (O1 c).toLoadRect (o1 B c)) (cdM.view.readAt (Elt F) R1.toLoadRect (crd B c))) Finset.univ
def o3 : Vec F S512x512 .f32 :=
  (ouM.access (O2 c)).write (Elt F) (o2 B c)
    (k0_pay22 (ouM.view.readAt (Elt F) (O2 c).toLoadRect (o2 B c)) (cfM.view.readAt (Elt F) R0.toLoadRect (crf B c))) Finset.univ
def o4 : Vec F S512x512 .f32 :=
  (ouM.access (O3 c)).write (Elt F) (o3 B c)
    (k0_pay1 (ouM.view.readAt (Elt F) (O3 c).toLoadRect (o3 B c)) (cfM.view.readAt (Elt F) R1.toLoadRect (crf B c))) Finset.univ

/-! ## What lands where -/

variable {B c}

/-- The assignment lands on the `y` peer. -/
theorem land_a (c : Dev nD) (fd) :
    (View.whole cc0_scratch3).write (Elt F) fd ((asM.slice (SA c) (fun _ => rfl)).view.read (Elt F) (asnd B c)) Finset.univ = arcv B (yp c) := by
  rw [View.write_whole_univ]
  funext i
  unfold arcv
  rw [yp_yp]
  rfl

/-- A chunk of the rows sent is a chunk of the rows the peer receives. -/
theorem X0_emb (c : Dev nD) (x : S128x512.Idx) : (X0 c).emb x = (XB (yp c)).emb (R0.emb x) := by
  funext a
  apply Fin.ext
  have h := congrFun (k0_off2_eq c 0) a
  have h2 := yp_half c
  fin_cases a
  · show k0_off2 c 0#32 0 + 1 * (x 0).val = 256 * ((yp c).val / 2) + 1 * (0 + 1 * (x 0).val)
    have h : k0_off2 c 0#32 0 = 256 * (c.val / 2) + 128 * 0 := h
    omega
  · show k0_off2 c 0#32 1 + 1 * (x 1).val = 0 + 1 * (0 + 1 * (x 1).val)
    have h : k0_off2 c 0#32 1 = 0 := h
    omega

theorem X1_emb (c : Dev nD) (x : S128x512.Idx) : (X1 c).emb x = (XB (yp c)).emb (R1.emb x) := by
  funext a
  apply Fin.ext
  have h := congrFun (k0_off2_eq c 1) a
  have h2 := yp_half c
  fin_cases a
  · show k0_off2 c 128#32 0 + 1 * (x 0).val = 256 * ((yp c).val / 2) + 1 * (128 + 1 * (x 0).val)
    have h : k0_off2 c 128#32 0 = 256 * (c.val / 2) + 128 * 1 := h
    omega
  · show k0_off2 c 128#32 1 + 1 * (x 1).val = 0 + 1 * (0 + 1 * (x 1).val)
    have h : k0_off2 c 128#32 1 = 0 := h
    omega

/-- The first chunk of the tokens lands on the `y` peer. -/
theorem land_x0 (c : Dev nD) (fd) : ∀ i ∈ (xrM.view.slice R0).set,
    (xrM.view.slice R0).write (Elt F) fd ((xsM.view.slice (X0 c)).read (Elt F) (xs B c)) Finset.univ i = xr B (yp c) i := by
  intro i hi
  obtain ⟨x, -, rfl⟩ := Finset.mem_map.mp hi
  rw [View.write_emb_of_mem _ _ (Finset.mem_univ x)]
  show xs B c ((X0 c).emb x) = xs B (yp (yp c)) ((XB (yp c)).emb (R0.emb x))
  rw [yp_yp, X0_emb]

/-- The second chunk of the tokens lands on the `y` peer. -/
theorem land_x1 (c : Dev nD) (fd) : ∀ i ∈ (xrM.view.slice R1).set,
    (xrM.view.slice R1).write (Elt F) fd ((xsM.view.slice (X1 c)).read (Elt F) (xs B c)) Finset.univ i = xr B (yp c) i := by
  intro i hi
  obtain ⟨x, -, rfl⟩ := Finset.mem_map.mp hi
  rw [View.write_emb_of_mem _ _ (Finset.mem_univ x)]
  show xs B c ((X1 c).emb x) = xs B (yp (yp c)) ((XB (yp c)).emb (R1.emb x))
  rw [yp_yp, X1_emb]

/-- A chunk of the sums lands on the `y` peer. -/
theorem land_s (R : Rect S256x512) (c : Dev nD) (fd) : ∀ i ∈ (cdM.view.slice R).set,
    (cdM.view.slice R).write (Elt F) fd ((csM.view.slice R).read (Elt F) (cs B c)) Finset.univ i = crd B (yp c) i := by
  intro i hi
  obtain ⟨x, -, rfl⟩ := Finset.mem_map.mp hi
  rw [View.write_emb_of_mem _ _ (Finset.mem_univ x)]
  show cs B c (R.emb x) = cs B (yp (yp c)) (R.emb x)
  rw [yp_yp]

/-- A chunk of the sums that came back lands on the `x` peer. -/
theorem land_f (R : Rect S256x512) (c : Dev nD) (fd) : ∀ i ∈ (cfM.view.slice R).set,
    (cfM.view.slice R).write (Elt F) fd ((cdM.view.slice R).read (Elt F) (crd B c)) Finset.univ i = crf B (xp c) i := by
  intro i hi
  obtain ⟨x, -, rfl⟩ := Finset.mem_map.mp hi
  rw [View.write_emb_of_mem _ _ (Finset.mem_univ x)]
  show crd B c (R.emb x) = crd B (xp (xp c)) (R.emb x)
  rw [xp_xp]

/-! ## The chunks of a buffer -/

/-- Two chunks of a 256-row buffer share no element, -/
theorem R_disjoint : Disjoint R0.set R1.set := by
  rw [Finset.disjoint_left]
  intro i h0 h1
  have h0 := (Rect.mem_set_unit.mp h0) 0
  have h1 := (Rect.mem_set_unit.mp h1) 0
  have e0 : ((![0, 0] : Fin 2 → ℕ) 0) = 0 := rfl
  have e1 : ((![128, 0] : Fin 2 → ℕ) 0) = 128 := rfl
  have es : S128x512.size (0 : Fin 2) = 128 := rfl
  simp only [e0, e1] at h0 h1
  have := h0.2
  have h1' := h1.1
  have : (i 0).val < 0 + 128 := this
  omega

/-- and together they are the buffer. -/
theorem R_union : R0.set ∪ R1.set = Finset.univ := by
  refine Finset.eq_univ_of_forall fun i => ?_
  rw [Finset.mem_union, Rect.mem_set_unit, Rect.mem_set_unit]
  have h0 : (i 0).val < 256 := (i 0).isLt
  have h1 : (i 1).val < 512 := (i 1).isLt
  by_cases h : (i 0).val < 128
  · left; intro a; fin_cases a
    · exact ⟨Nat.zero_le _, show (i 0).val < 0 + 128 by omega⟩
    · exact ⟨Nat.zero_le _, show (i 1).val < 0 + 512 by omega⟩
  · right; intro a; fin_cases a
    · exact ⟨show 128 ≤ (i 0).val by omega, show (i 0).val < 128 + 128 by omega⟩
    · exact ⟨Nat.zero_le _, show (i 1).val < 0 + 512 by omega⟩

/-- The two chunks of the tokens sent share no element. -/
theorem X_disjoint (c : Dev nD) : Disjoint (X0 c).set (X1 c).set := by
  rw [Finset.disjoint_left]
  intro i h0 h1
  have h0 : (i 0).val < k0_off2 c 0#32 0 + 128 := ((Rect.mem_set_unit.mp h0) 0).2
  have h1 : k0_off2 c 128#32 0 ≤ (i 0).val := ((Rect.mem_set_unit.mp h1) 0).1
  have e0 : k0_off2 c 0#32 0 = 256 * (c.val / 2) + 128 * 0 := congrFun (k0_off2_eq c 0) 0
  have e1 : k0_off2 c 128#32 0 = 256 * (c.val / 2) + 128 * 1 := congrFun (k0_off2_eq c 1) 0
  omega

/-- The first store into the sums makes their first chunk. -/
theorem cs_on0 (c : Dev nD) (f) : ∀ i ∈ (csM.view.slice R0).set,
    (csM.access R0).write (Elt F) f (cs0 B c) Finset.univ i = cs B c i := by
  intro i hi
  have hn : i ∉ (csM.view.slice R1).setOn Finset.univ := by
    rw [View.setOn_univ]
    intro h
    rw [show (csM.view.slice R1).set = R1.set from View.set_slice_whole _ _] at h
    rw [show (csM.view.slice R0).set = R0.set from View.set_slice_whole _ _] at hi
    exact Finset.disjoint_left.mp R_disjoint hi h
  unfold cs
  rw [View.write_of_not_mem _ _ _ hn]
  obtain ⟨x, -, rfl⟩ := Finset.mem_map.mp hi
  rw [View.write_emb_of_mem _ _ (Finset.mem_univ x), View.write_emb_of_mem _ _ (Finset.mem_univ x)]

/-- The second store into the sums makes their second chunk. -/
theorem cs_on1 (c : Dev nD) (f) : ∀ i ∈ (csM.view.slice R1).set,
    (csM.access R1).write (Elt F) f (cs1 B c) Finset.univ i = cs B c i := by
  intro i hi
  unfold cs
  obtain ⟨x, -, rfl⟩ := Finset.mem_map.mp hi
  rw [View.write_emb_of_mem _ _ (Finset.mem_univ x), View.write_emb_of_mem _ _ (Finset.mem_univ x)]

end Cert.Moe
-- ==== Proof.Protocol.lean ====
/-
The protocol between the devices.

Per device: the barrier cell, waited for once, two units. The `y` peer's signal hands over the buffers this device's copies
land in on the `y` peer (assignment, both chunks of the tokens, both chunks of the sums); the `x` peer's signal hands over
the two chunks this device's forwards land in on the `x` peer. Both come with the fact that the receive cells they are paid
on are at their first round.

Copies 0 to 6 (assignment, tokens 0, tokens 1, sums 0, sums 1, forward 0, forward 1) each have a send cell on the sender,
which hands the source back to it, and a receive cell on the target, which hands the destination at what landed. Copies
0 to 4 go to the `y` peer, copies 5 and 6 to the `x` peer. Every cell has one round.
-/
module

public import proofs.«01_k».proof.Proof.Contents

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The pipeline library's rounds beside the protocol's; two duty names, the two signals of a barrier cell. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The cells -/

abbrev barS : Sem sig := (SemArray.scalar (sig.barrier 0 rfl) : Sems sig S_).sem
def sendS (i : Fin 7) : DmaSem sig := (⟨5 + i.val, by have := i.isLt; omega⟩ : Fin 19)
def recvS (i : Fin 7) : DmaSem sig := (⟨12 + i.val, by have := i.isLt; omega⟩ : Fin 19)

abbrev barCell (c : Dev nD) : GSem nD τ sig := ((c : Thread nD τ), .reg barS)
abbrev sendCell (c : Dev nD) (i : Fin 7) : GSem nD τ sig := ((c : Thread nD τ), .dma (sendS i))
abbrev recvCell (c : Dev nD) (i : Fin 7) : GSem nD τ sig := ((c : Thread nD τ), .dma (recvS i))

/-- The device that copy `i` of device `c` goes to. -/
def tgt (c : Dev nD) (i : Fin 7) : Dev nD := if i.val < 5 then yp c else xp c
theorem tgt_tgt (c : Dev nD) (i : Fin 7) : tgt (tgt c i) i = c := by
  unfold tgt; split
  · exact yp_yp c
  · exact xp_xp c

/-- The credit of the copy of the assignment, and of every other copy. -/
abbrev NA : ℕ := (arM : Memref sig .tc .vmem S256x1 .i32).view.dmaCredit
abbrev NC : ℕ := (xrM.view.slice R0).dmaCredit
theorem NA_pos : 0 < NA := View.dmaCredit_pos _ (by decide)
theorem NC_pos : 0 < NC := View.dmaCredit_pos _ (by decide)
def amt (i : Fin 7) : ℕ := if i = 0 then NA else NC
theorem amt_pos (i : Fin 7) : 0 < amt i := by
  unfold amt; split
  · exact NA_pos
  · exact NC_pos

theorem amt_A {k : ℕ} (h : k = NA) : k = amt 0 := h.trans (if_pos rfl).symm
theorem amt_C {k : ℕ} {i : Fin 7} (h : k = NC) (hi : i ≠ 0 := by decide) : k = amt i := h.trans (if_neg hi).symm

/-! ## What the cells hand over -/

/-- Share `q` of the elements of rectangle `R` of buffer `b` of device `c`, at `f`. -/
abbrev part {s : Shape} {e : EltTy} (M : Memref sig .tc .vmem s e) (R : Rect s) (c : Dev nD) (q : PosShare TreeShare)
    (f : Buf (Elt F) (M.view.loc (c : Thread nD τ))) : sProp 𝕄 :=
  M.view.loc (c : Thread nD τ) ↦[(M.view.slice R).set]{q} f
/-- Share `q` of a whole buffer. -/
abbrev all {s : Shape} {e : EltTy} (M : Memref sig .tc .vmem s e) (c : Dev nD) (q : PosShare TreeShare)
    (f : Buf (Elt F) (M.view.loc (c : Thread nD τ))) : sProp 𝕄 :=
  M.view.loc (c : Thread nD τ) ↦[M.view.set]{q} f

variable (B : Blocks F)

/-- The source of copy `i` of device `c`, at what it holds. -/
def sendPay (c : Dev nD) : Fin 7 → sProp 𝕄
  | 0 => part asM (SA c) c fullShare (asnd B c)
  | 1 => part xsM (X0 c) c fullShare.right (xs B c)
  | 2 => part xsM (X1 c) c fullShare.right (xs B c)
  | 3 => part csM R0 c fullShare (cs B c)
  | 4 => part csM R1 c fullShare (cs B c)
  | 5 => part cdM R0 c fullShare.right (crd B c)
  | 6 => part cdM R1 c fullShare.right (crd B c)

/-- The destination of copy `i` to device `c`, at what landed. -/
def recvPay (c : Dev nD) : Fin 7 → sProp 𝕄
  | 0 => all arM c fullShare (arcv B c)
  | 1 => part xrM R0 c fullShare (xr B c)
  | 2 => part xrM R1 c fullShare (xr B c)
  | 3 => part cdM R0 c fullShare (crd B c)
  | 4 => part cdM R1 c fullShare (crd B c)
  | 5 => part cfM R0 c fullShare (crf B c)
  | 6 => part cfM R1 c fullShare (crf B c)

/-- The elements of rectangle `R` of a buffer of device `c`, at contents not chosen; a whole buffer so. -/
def anyPart {s : Shape} {e : EltTy} (M : Memref sig .tc .vmem s e) (R : Rect s) (c : Dev nD) : sProp 𝕄 := iprop(∃ f, part M R c fullShare f)
def anyAll {s : Shape} {e : EltTy} (M : Memref sig .tc .vmem s e) (c : Dev nD) : sProp 𝕄 := iprop(∃ f, all M c fullShare f)
instance anyPart_storable {s : Shape} {e : EltTy} (M : Memref sig .tc .vmem s e) (R : Rect s) (c : Dev nD) :
    BI.Storable (upEmb : UEmb _ 𝕄) (anyPart (F := F) M R c) := by unfold anyPart; infer_instance
instance anyAll_storable {s : Shape} {e : EltTy} (M : Memref sig .tc .vmem s e) (c : Dev nD) :
    BI.Storable (upEmb : UEmb _ 𝕄) (anyAll (F := F) M c) := by unfold anyAll; infer_instance

/-- The buffers device `c`'s copies land in on its `y` peer. -/
def roomY (c : Dev nD) : sProp 𝕄 :=
  iprop(anyAll arM (yp c) ∗ anyPart xrM R0 (yp c) ∗ anyPart xrM R1 (yp c) ∗ anyPart cdM R0 (yp c) ∗ anyPart cdM R1 (yp c))
/-- The receive cells they are paid on are at their first round. -/
def readyY (c : Dev nD) : sProp 𝕄 :=
  iprop(reached ER (recvCell (yp c) 0) 0 ∗ reached ER (recvCell (yp c) 1) 0 ∗ reached ER (recvCell (yp c) 2) 0
    ∗ reached ER (recvCell (yp c) 3) 0 ∗ reached ER (recvCell (yp c) 4) 0)
/-- What device `c` gets from its `y` peer's signal. -/
def barY (c : Dev nD) : sProp 𝕄 := iprop(roomY c ∗ readyY c)

/-- What device `c` gets from its `x` peer's signal. -/
def barX (c : Dev nD) : sProp 𝕄 :=
  iprop(anyPart cfM R0 (xp c) ∗ anyPart cfM R1 (xp c)
    ∗ reached ER (recvCell (xp c) 5) 0 ∗ reached ER (recvCell (xp c) 6) 0)

instance sendPay_storable (c : Dev nD) (i : Fin 7) : BI.Storable (upEmb : UEmb _ 𝕄) (sendPay B c i) := by
  fin_cases i <;> (dsimp only [sendPay]; infer_instance)
instance recvPay_storable (c : Dev nD) (i : Fin 7) : BI.Storable (upEmb : UEmb _ 𝕄) (recvPay B c i) := by
  fin_cases i <;> (dsimp only [recvPay]; infer_instance)
instance roomY_storable (c : Dev nD) : BI.Storable (upEmb : UEmb _ 𝕄) (roomY (F := F) c) := by unfold roomY; infer_instance
instance readyY_storable (c : Dev nD) : BI.Storable (upEmb : UEmb _ 𝕄) (readyY (F := F) c) := by unfold readyY; infer_instance
instance barY_storable (c : Dev nD) : BI.Storable (upEmb : UEmb _ 𝕄) (barY (F := F) c) := by unfold barY; infer_instance
instance barX_storable (c : Dev nD) : BI.Storable (upEmb : UEmb _ 𝕄) (barX (F := F) c) := by unfold barX; infer_instance

/-! ## The schedule -/

/-- The duties of a cell's only round: both signals of a barrier cell, the one copy of a send or receive cell. -/
def dutiesOf : SemLoc sig → Finset Bool
  | .reg _ => Finset.univ
  | .dma q => if 5 ≤ q.val then {true} else ∅
def amountOf : SemLoc sig → ℕ
  | .reg _ => 1
  | .dma q => if q.val = 5 ∨ q.val = 12 then NA else NC
def payOf (c : Dev nD) : SemLoc sig → Bool → sProp 𝕄
  | .reg _, true => barY c
  | .reg _, false => barX c
  | .dma q, _ =>
    if h : 5 ≤ q.val ∧ q.val < 12 then sendPay B c ⟨q.val - 5, by omega⟩
    else if h : 12 ≤ q.val ∧ q.val < 19 then recvPay B c ⟨q.val - 12, by omega⟩
    else iprop(emp)

instance payOf_storable (c : Dev nD) (s : SemLoc sig) (d : Bool) : BI.Storable (upEmb : UEmb _ 𝕄) (payOf B c s d) := by
  cases s with
  | reg r => cases d <;> (dsimp only [payOf]; infer_instance)
  | dma q => dsimp only [payOf]; (repeat' split) <;> infer_instance

theorem amountOf_pos (s : SemLoc sig) : 0 < amountOf s := by
  cases s with
  | reg r => exact Nat.one_pos
  | dma q =>
    dsimp only [amountOf]
    split
    · exact NA_pos
    · exact NC_pos

def rd : Rounds.Schedule (GSem nD τ sig) Bool 𝕄 where
  duties g r := if r = 0 ∧ g.1.2 = .tc then dutiesOf g.2 else ∅
  unitless _ := False
  amount g _ _ := amountOf g.2
  payload g _ d := payOf B g.1.1 g.2 d
  amount_pos g _ _ _ := amountOf_pos g.2

instance rd_storable (g : GSem nD τ sig) (r : ℕ) (d : Bool) : BI.Storable (upEmb : UEmb _ 𝕄) ((rd B).payload g r d) := by
  show BI.Storable upEmb (payOf B g.1.1 g.2 d); infer_instance

variable (c : Dev nD) (i : Fin 7)

theorem duties_later (g : GSem nD τ sig) : ∀ r, 1 ≤ r → (rd B).duties g r = ∅ :=
  fun r hr => by dsimp only [rd]; rw [if_neg (fun h => by omega)]
theorem duties_bar : (rd B).duties (barCell c) 0 = Finset.univ := by dsimp only [rd]; exact if_pos ⟨rfl, rfl⟩
theorem duties_send : (rd B).duties (sendCell c i) 0 = {true} := by
  dsimp only [rd]; rw [if_pos ⟨rfl, rfl⟩]; exact if_pos (Nat.le_add_right 5 i.val)
theorem duties_recv : (rd B).duties (recvCell c i) 0 = {true} := by
  dsimp only [rd]; rw [if_pos ⟨rfl, rfl⟩]; exact if_pos (show 5 ≤ 12 + i.val by omega)
theorem amount_bar (d : Bool) : (rd B).amount (barCell c) 0 d = 1 := rfl
theorem amount_send (d : Bool) : (rd B).amount (sendCell c i) 0 d = amt i := by
  revert i; intro i; fin_cases i <;> rfl
theorem amount_recv (d : Bool) : (rd B).amount (recvCell c i) 0 d = amt i := by
  revert i; intro i; fin_cases i <;> rfl
theorem expect_bar : (rd B).expect (barCell c) 0 = 2 := by
  unfold Schedule.expect Schedule.amountOf; rw [duties_bar]; rfl
theorem expect_send : (rd B).expect (sendCell c i) 0 = amt i := by
  unfold Schedule.expect Schedule.amountOf; rw [duties_send, Finset.sum_singleton, amount_send]
theorem expect_recv : (rd B).expect (recvCell c i) 0 = amt i := by
  unfold Schedule.expect Schedule.amountOf; rw [duties_recv, Finset.sum_singleton, amount_recv]
theorem payload_send (d : Bool) : (rd B).payload (sendCell c i) 0 d = sendPay B c i := by
  fin_cases i <;> rfl
theorem payload_recv (d : Bool) : (rd B).payload (recvCell c i) 0 d = recvPay B c i := by
  fin_cases i <;> rfl
theorem rest_send : bigSep ((rd B).duties (sendCell c i) 0 \ ∅) (fun d => (rd B).payload (sendCell c i) 0 d) = sendPay B c i := by
  rw [Finset.sdiff_empty, duties_send, bigSep_singleton, payload_send]
theorem rest_recv : bigSep ((rd B).duties (recvCell c i) 0 \ ∅) (fun d => (rd B).payload (recvCell c i) 0 d) = recvPay B c i := by
  rw [Finset.sdiff_empty, duties_recv, bigSep_singleton, payload_recv]
theorem rest_bar : bigSep ((rd B).duties (barCell c) 0 \ ∅) (fun d => (rd B).payload (barCell c) 0 d) = iprop(barY c ∗ barX c) := by
  rw [Finset.sdiff_empty, duties_bar]
  rw [bigSep_eq_bigSepL_of_eq [true, false] (by decide) (by decide)]
  rfl

/-! ## What a device owes; the levels -/

/-- The unit of credit copy `i` of device `c` pays. -/
abbrev owe (c : Dev nD) (i : Fin 7) : CellTallies nD τ sig Unit := tallyAt (recvCell (tgt c i) i) () (amt i)
/-- The copies still to be made once the first `n` are. -/
def left (n : ℕ) : List (Fin 7) := [0, 1, 2, 3, 4, 5, 6].drop n
/-- What device `c` owes once its signals and its first `n` copies are made. -/
def Ow (c : Dev nD) (n : ℕ) : CellTallies nD τ sig Unit := (left n).foldr (fun i acc => acc + owe c i) 0
theorem Ow_step : Ow c i.val = Ow c (i.val + 1) + owe c i := by fin_cases i <;> rfl
theorem Ow_end : Ow c 7 = 0 := rfl
/-- What device `c` owes at launch. -/
def O₀ (c : Dev nD) : CellTallies nD τ sig Unit := Ow c 0 + tallyAt (barCell (xp c)) () 1 + tallyAt (barCell (yp c)) () 1

def L (g : GSem nD τ sig) : Finset Unit := if g.1.2 = .tc then {()} else ∅
/-- The level of a receive cell: tokens below sums below forwards. -/
def rl : ℕ → ℕ
  | 0 | 1 | 2 => 2
  | 3 | 4 => 3
  | _ => 4
def lvOf : SemLoc sig → ℕ
  | .reg _ => 1
  | .dma q => if q.val < 12 then 0 else rl (q.val - 12)
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem owed_mem (l : List (Fin 7)) {g : GSem nD τ sig} {u : Unit}
    (h : 0 < (l.foldr (fun i acc => acc + owe c i) (0 : CellTallies nD τ sig Unit)) g u) : ∃ j ∈ l, g = recvCell (tgt c j) j := by
  induction l with
  | nil => exact absurd h (Nat.lt_irrefl 0)
  | cons j l ih =>
    rw [List.foldr_cons] at h
    by_cases hj : g = recvCell (tgt c j) j
    · exact ⟨j, List.mem_cons_self, hj⟩
    · have h0 : owe c j g u = 0 := by
        rw [tallyAt_apply, if_neg (fun hh => hj hh.1)]
      have : 0 < (l.foldr (fun i acc => acc + owe c i) (0 : CellTallies nD τ sig Unit)) g u := by
        have h' : 0 < (l.foldr (fun i acc => acc + owe c i) (0 : CellTallies nD τ sig Unit)) g u + owe c j g u := h
        omega
      obtain ⟨k, hk, e⟩ := ih this
      exact ⟨k, List.mem_cons_of_mem _ hk, e⟩

/-- A device may wait for a cell whose level is below those of the copies it still has to make. -/
theorem mayWait (n : ℕ) (sm : SemLoc sig) (h : ∀ j ∈ left n, lvOf sm < lvOf (.dma (recvS j))) :
    (levAts L lv : sProp 𝕄) ⊢ MayWait (c : Thread nD τ) sm () (Ow c n) :=
  MayOwe.of_cut (L := L) (lev := lv) (lvOf sm) (fun p hp => by rw [Finset.mem_singleton.mp hp, L_tc]; exact Finset.mem_singleton_self _)
    (fun g u hg => by
      obtain ⟨j, -, rfl⟩ := owed_mem c (left n) hg
      rw [L_tc]; exact Finset.mem_singleton_self _)
    (fun p hp => by rw [Finset.mem_singleton.mp hp]; exact le_rfl)
    (fun g u hg => by
      obtain ⟨j, hj, rfl⟩ := owed_mem c (left n) hg
      exact h j hj)

/-! ## The cells' invariants, and the steps -/

/-- Every cell of the protocol, over the devices: the barrier cell, the send cells, the receive cells. -/
def csem (k : Fin 15) : SemLoc sig := if k = 0 then .reg barS else .dma (⟨4 + k.val, by have := k.isLt; omega⟩ : Fin 19)
abbrev kcell (ck : Dev nD × Fin 15) : GSem nD τ sig := ((ck.1 : Thread nD τ), csem ck.2)

/-- The invariants of all cells of all devices, under one map of names. -/
def records (K : GSem nD τ sig → ℕ) : sProp 𝕄 := bigSep Finset.univ fun ck : Dev nD × Fin 15 => cellInv ER (rd B) (K (kcell ck)) (kcell ck)
instance records_persistent (K : GSem nD τ sig → ℕ) : BI.Persistent (records B K) := by unfold records; infer_instance

theorem sendCell_k : sendCell c i = kcell (c, ⟨i.val + 1, by omega⟩) := by fin_cases i <;> rfl
theorem recvCell_k : recvCell c i = kcell (c, ⟨i.val + 8, by omega⟩) := by fin_cases i <;> rfl

theorem inv_k (K : GSem nD τ sig → ℕ) (ck : Dev nD × Fin 15) : records B K ⊢ cellInv ER (rd B) (K (kcell ck)) (kcell ck) :=
  bigSep_elim (Finset.mem_univ ck)
theorem inv_bar (K : GSem nD τ sig → ℕ) : records B K ⊢ cellInv ER (rd B) (K (barCell c)) (barCell c) := inv_k B K (c, 0)
theorem inv_send (K : GSem nD τ sig → ℕ) : records B K ⊢ cellInv ER (rd B) (K (sendCell c i)) (sendCell c i) := by
  rw [sendCell_k]; exact inv_k B K _
theorem inv_recv (K : GSem nD τ sig → ℕ) : records B K ⊢ cellInv ER (rd B) (K (recvCell c i)) (recvCell c i) := by
  rw [recvCell_k]; exact inv_k B K _

/-- What device `c` owes, whatever it has waited for. -/
def ow (c : Dev nD) (O : CellTallies nD τ sig Unit) : sProp 𝕄 := iprop(∃ W, owes (c : Thread nD τ) O W)
/-- What copy `i` of device `c` takes: both duties' tokens, and that both rounds are reached. -/
def ticket (c : Dev nD) (i : Fin 7) : sProp 𝕄 :=
  iprop(dutyTok ER (sendCell c i) 0 true ∗ dutyTok ER (recvCell (tgt c i) i) 0 true ∗ reached ER (sendCell c i) 0)

variable {α : Type}

/-- Copy `i`: it takes its source and destination and leaves the credit of its send cell. -/
theorem send_step (K : GSem nD τ sig → ℕ) {c c' : Dev nD} {i : Fin 7} (hc' : c' = tgt c i) {s : Shape} {e : EltTy}
    {src dst : Memref sig .tc .vmem s e} {sS rS : DmaSem sig} (hs : sS = sendS i) (hr : rS = recvS i)
    {hsc : dst.view.ref.isScScratch = false} {hsrc : src.view.WordExact} {hdst : dst.view.WordExact}
    {hsem : DmaTarget.Typed (nD := nD) (τ := τ) (p := (c : Thread nD τ).2) .vmem (.dma rS) (.remote (c' : Thread nD τ) dst (.dma sS) hsc)}
    (hN : dst.view.dmaCredit = amt i)
    {q : PosShare TreeShare} {fs : Buf (Elt F) (src.view.loc (c : Thread nD τ))} (fd : Buf (Elt F) (dst.view.loc (tgt c i : Thread nD τ)))
    (hp₁ : (src.view.loc (c : Thread nD τ) ↦[src.view.set]{q} fs) ⊢ sendPay B c i)
    (hp₂ : (dst.view.loc (tgt c i : Thread nD τ) ↦[dst.view.set]{fullShare} (dst.view.write (Elt F) fd (src.view.read (Elt F) fs) Finset.univ))
      ⊢ recvPay B (tgt c i) i)
    {k : PUnit → Prog (TpuEff nD τ sig (Elt F) Λ₀ .tc) α} {Q : α → sProp 𝕄} {n n' : ℕ} (hn : n = i.val) (hn' : n' = i.val + 1) :
    iprop(records B K ∗ ticket c i ∗ reached ER (recvCell (tgt c i) i) 0 ∗ ow c (Ow c n) ∗ (src.view.loc (c : Thread nD τ) ↦[src.view.set]{q} fs)
        ∗ (dst.view.loc (tgt c i : Thread nD τ) ↦[dst.view.set]{fullShare} fd))
      ⊢ iprop(((cred (tallyAt (sendCell c i) () (amt i)) ∗ ow c (Ow c n')) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (c' : Thread nD τ) dst (.dma sS) hsc) (.dma rS) hsrc hdst hsem) k) Q) := by
  subst hc' hs hr hn hn'
  unfold ticket ow
  iintro ⟨#HK, ⟨HtS, HtR, #HrS⟩, #HrR, ⟨%W, HO⟩, Hsrc, Hdst⟩ Hk
  iapply (Rounds.wp_send_pointsTo 𝒱₀ ER (rd B) (c : Thread nD τ) none (c' := (tgt c i : Thread nD τ)) (src := src) (dst := dst)
      (sS := .dma (sendS i)) (sem := .dma (recvS i)) (q := q) (fs := fs) (fd := fd) (κ₁ := K (sendCell c i)) (κ₂ := K (recvCell (tgt c i) i))
      (r₁ := 0) (r₂ := 0) (d₁ := true) (d₂ := true)
      (by rw [duties_send]; exact Finset.mem_singleton_self _) (by rw [duties_recv]; exact Finset.mem_singleton_self _) () ()
      (amt i) hN (amount_send B c i true) (amount_recv B (tgt c i) i true) (Ow c (i.val + 1)) (Ow_step c i) (W := W)
      (by rw [payload_send]; exact hp₁) (by rw [payload_recv]; exact hp₂)) $$ [HO HtS HtR Hsrc Hdst]
  · isplitr; · iapply (inv_send B c i K); iexact HK
    isplitr; · iapply (inv_recv B (tgt c i) i K); iexact HK
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨Hc, HO⟩
  iapply Hk
  isplitl [Hc]; · iexact Hc
  iexists W; iexact HO

theorem close (κ : ℕ) (g : GSem nD τ sig) :
    iprop(cellInv ER (rd B) κ g ∗ atPos ER g (0 + 1) ∅ 0) ⊢ (|={Set.univ}=> semVal g 0 : sProp 𝕄) :=
  Rounds.cell_close ER (rd B) (Set.mem_univ κ) id (duties_later B g)

/-- The wait for copy `i`'s source: it comes back, and the cell is closed. -/
theorem wait_send (K : GSem nD τ sig → ℕ) {c : Dev nD} (i : Fin 7) (n : ℕ) (hlv : ∀ j ∈ left n, lvOf (.dma (sendS i)) < lvOf (.dma (recvS j)))
    {s s' : Shape} {e e' : EltTy} {src : Memref sig .tc .vmem s' e'} {dst : Memref sig .tc .vmem s e} {sS : DmaSem sig} (hs : sS = sendS i)
    {hsrc : src.view.WordExact} {hdst : dst.view.WordExact} (hN : dst.view.dmaCredit = amt i)
    {k : PUnit → Prog (TpuEff nD τ sig (Elt F) Λ₀ .tc) α} {Q : α → sProp 𝕄} :
    iprop(records B K ∗ levAts L lv ∗ cred (tallyAt (sendCell c i) () (amt i)) ∗ ow c (Ow c n) ∗ atPos ER (sendCell c i) 0 ∅ 0)
      ⊢ iprop(((semVal (sendCell c i) 0 ∗ ow c (Ow c n) ∗ sendPay B c i) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst hs
  unfold ow
  iintro ⟨#HK, #Hlev, Hc, ⟨%W, HO⟩, Hat⟩ Hk
  iapply (Rounds.wp_wait_rest_token 𝒱₀ ER (rd B) (c : Thread nD τ) none (κ := K (sendCell c i))
      (wpE_waitDma2_eq (src := src) (dst := dst) 𝒱₀ (c : Thread nD τ) none Set.univ) (Set.mem_univ _) () (O := Ow c n) (W := W) (R := 0) (m := 0) (T := ∅)
      ((Nat.zero_add _).trans (hN.trans (expect_send B c i).symm))) $$ [Hc HO Hat]
  · isplitr; · iapply (inv_send B c i K); iexact HK
    isplitl [Hc]; · rw [hN]; iexact Hc
    isplitl [HO]; · iexact HO
    isplitr; · iapply (mayWait c n _ hlv); iexact Hlev
    iexact Hat
  iintro ⟨HO, Hat, -, Hpay⟩
  ihave Hp := (Entails.of_eq (rest_send B c i)) $$ Hpay
  imod (close B (K (sendCell c i)) (sendCell c i)) $$ [Hat] with Hv
  · isplitr; · iapply (inv_send B c i K); iexact HK
    iexact Hat
  iapply Hk
  isplitl [Hv]; · iexact Hv
  isplitl [HO]; · iexists _; iexact HO
  iexact Hp

/-- The wait for copy `i` to this device: what landed comes, and the cell is closed. -/
theorem wait_recv (K : GSem nD τ sig → ℕ) {c : Dev nD} (i : Fin 7) (n : ℕ) (hlv : ∀ j ∈ left n, lvOf (.dma (recvS i)) < lvOf (.dma (recvS j)))
    {s s' : Shape} {e e' : EltTy} {src : Memref sig .tc .vmem s' e'} {dst : Memref sig .tc .vmem s e} {sS : DmaSem sig} (hs : sS = recvS i)
    {hsrc : src.view.WordExact} {hdst : dst.view.WordExact} (hN : dst.view.dmaCredit = amt i)
    {k : PUnit → Prog (TpuEff nD τ sig (Elt F) Λ₀ .tc) α} {Q : α → sProp 𝕄} :
    iprop(records B K ∗ levAts L lv ∗ cred (tallyAt (recvCell c i) () (amt i)) ∗ ow c (Ow c n) ∗ atPos ER (recvCell c i) 0 ∅ 0)
      ⊢ iprop(((semVal (recvCell c i) 0 ∗ ow c (Ow c n) ∗ recvPay B c i) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst hs
  unfold ow
  iintro ⟨#HK, #Hlev, Hc, ⟨%W, HO⟩, Hat⟩ Hk
  iapply (Rounds.wp_wait_rest_token 𝒱₀ ER (rd B) (c : Thread nD τ) none (κ := K (recvCell c i))
      (wpE_waitDma2_eq (src := src) (dst := dst) 𝒱₀ (c : Thread nD τ) none Set.univ) (Set.mem_univ _) () (O := Ow c n) (W := W) (R := 0) (m := 0) (T := ∅)
      ((Nat.zero_add _).trans (hN.trans (expect_recv B c i).symm))) $$ [Hc HO Hat]
  · isplitr; · iapply (inv_recv B c i K); iexact HK
    isplitl [Hc]; · rw [hN]; iexact Hc
    isplitl [HO]; · iexact HO
    isplitr; · iapply (mayWait c n _ hlv); iexact Hlev
    iexact Hat
  iintro ⟨HO, Hat, -, Hpay⟩
  ihave Hp := (Entails.of_eq (rest_recv B c i)) $$ Hpay
  imod (close B (K (recvCell c i)) (recvCell c i)) $$ [Hat] with Hv
  · isplitr; · iapply (inv_recv B c i K); iexact HK
    iexact Hat
  iapply Hk
  isplitl [Hv]; · iexact Hv
  isplitl [HO]; · iexists _; iexact HO
  iexact Hp

end Cert.Moe
-- ==== Proof.Body1.lean ====
/-
The first half of the kernel's run on device `c`: the handshake, the copies out, the own experts on the own tokens.
-/
module

public import proofs.«01_k».proof.Proof.Protocol

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Loads and stores of the buffers -/

section Steps

variable {α : Type} {c : Dev nD} {s : Shape} {e : EltTy} {M : Memref sig .tc .vmem s e} {q : PosShare TreeShare}
  {f : Buf (Elt F) (M.view.loc (c : Thread nD τ))}

theorem load_all {r : LoadRect s} {hl : M.view.LoadsAt r} {k : (r.shape.Idx → Elt F e) → Prog (TpuEff nD τ sig (Elt F) Λ₀ .tc) α} {Q : α → sProp 𝕄} :
    all M c q f ⊢ iprop((all M c q f -∗ wp frame (wpE (defs₀ (F := F)) 𝒱₀ (c : Thread nD τ) none) Set.univ (k (M.view.readAt (Elt F) r f)) Q)
        -∗ wp frame (wpE (defs₀ (F := F)) 𝒱₀ (c : Thread nD τ) none) Set.univ (.op (.load M r hl) k) Q) :=
  wp_load 𝒱₀ (c : Thread nD τ) none Set.univ (m := M) (r := r) (hl := hl) (k := k) (S := M.view.set) (q := q) (f := f) (View.setOn_subset_set _ _)

theorem load_part {R : Rect s} {hl : M.view.LoadsAt R.toLoadRect} {k : (R.shape.Idx → Elt F e) → Prog (TpuEff nD τ sig (Elt F) Λ₀ .tc) α} {Q : α → sProp 𝕄} :
    part M R c q f ⊢ iprop((part M R c q f -∗ wp frame (wpE (defs₀ (F := F)) 𝒱₀ (c : Thread nD τ) none) Set.univ (k (M.view.readAt (Elt F) R.toLoadRect f)) Q)
        -∗ wp frame (wpE (defs₀ (F := F)) 𝒱₀ (c : Thread nD τ) none) Set.univ (.op (.load M R.toLoadRect hl) k) Q) :=
  wp_load 𝒱₀ (c : Thread nD τ) none Set.univ (m := M) (r := R.toLoadRect) (hl := hl) (k := k) (S := (M.view.slice R).set) (q := q) (f := f)
    (by rw [View.set_slice]; exact subset_rfl)

theorem store_all {R : Rect s} {w : R.shape.Idx → Elt F e} {hx : (M.access R).Stores Finset.univ}
    {hm : (Finset.univ : Finset R.shape.Idx) = Finset.univ ∨ ∀ a, R.stride a = 1} {k : PUnit → Prog (TpuEff nD τ sig (Elt F) Λ₀ .tc) α} {Q : α → sProp 𝕄} :
    all M c fullShare f ⊢ iprop((all M c fullShare ((M.access R).write (Elt F) f w Finset.univ)
          -∗ wp frame (wpE (defs₀ (F := F)) 𝒱₀ (c : Thread nD τ) none) Set.univ (k ⟨⟩) Q)
        -∗ wp frame (wpE (defs₀ (F := F)) 𝒱₀ (c : Thread nD τ) none) Set.univ (.op (.store M R w Finset.univ hx hm) k) Q) :=
  wp_store 𝒱₀ (c : Thread nD τ) none Set.univ (m := M) (r := R) (w := w) (Mk := Finset.univ) (hx := hx) (hm := hm) (k := k) (S := M.view.set) (f := f)
    (View.set_slice_subset _ _)

theorem store_part {R : Rect s} {w : R.shape.Idx → Elt F e} {hx : (M.access R).Stores Finset.univ}
    {hm : (Finset.univ : Finset R.shape.Idx) = Finset.univ ∨ ∀ a, R.stride a = 1} {k : PUnit → Prog (TpuEff nD τ sig (Elt F) Λ₀ .tc) α} {Q : α → sProp 𝕄} :
    part M R c fullShare f ⊢ iprop((part M R c fullShare ((M.access R).write (Elt F) f w Finset.univ)
          -∗ wp frame (wpE (defs₀ (F := F)) 𝒱₀ (c : Thread nD τ) none) Set.univ (k ⟨⟩) Q)
        -∗ wp frame (wpE (defs₀ (F := F)) 𝒱₀ (c : Thread nD τ) none) Set.univ (.op (.store M R w Finset.univ hx hm) k) Q) :=
  wp_store 𝒱₀ (c : Thread nD τ) none Set.univ (m := M) (r := R) (w := w) (Mk := Finset.univ) (hx := hx) (hm := hm) (k := k) (S := (M.view.slice R).set) (f := f)
    subset_rfl

end Steps

/-! ## Both waits of a copy -/

/-- What device `c` holds for its copy number `i` until both are waited for, and after. -/
def pend (c : Dev nD) (i : Fin 7) : sProp 𝕄 :=
  iprop(atPos ER (sendCell c i) 0 ∅ 0 ∗ atPos ER (recvCell c i) 0 ∅ 0 ∗ cred (tallyAt (recvCell c i) () (amt i)))
def closed (c : Dev nD) (i : Fin 7) : sProp 𝕄 := iprop(semVal (sendCell c i) 0 ∗ semVal (recvCell c i) 0)

/-- The wait for the copy sent and the wait for the copy received: the source comes back and the destination comes. -/
theorem wait_both (B : Blocks F) (K : GSem nD τ sig → ℕ) {α : Type} {c : Dev nD} (i : Fin 7) (n : ℕ)
    (hlv : (∀ j ∈ left n, lvOf (.dma (sendS i)) < lvOf (.dma (recvS j))) ∧ ∀ j ∈ left n, lvOf (.dma (recvS i)) < lvOf (.dma (recvS j)))
    {s s' t t' : Shape} {e e' u u' : EltTy} {src : Memref sig .tc .vmem s' e'} {dst : Memref sig .tc .vmem s e}
    {srcR : Memref sig .tc .vmem t' u'} {dstR : Memref sig .tc .vmem t u} {sS rS : DmaSem sig} (hs : sS = sendS i) (hr : rS = recvS i)
    {hsrc : src.view.WordExact} {hdst : dst.view.WordExact} {hsrcR : srcR.view.WordExact} {hdstR : dstR.view.WordExact}
    (hN : dst.view.dmaCredit = amt i) (hNR : dstR.view.dmaCredit = amt i)
    {k : PUnit → Prog (TpuEff nD τ sig (Elt F) Λ₀ .tc) α} {Q : α → sProp 𝕄} :
    iprop(records B K ∗ levAts L lv ∗ pend c i ∗ cred (tallyAt (sendCell c i) () (amt i)) ∗ ow c (Ow c n))
      ⊢ iprop(((closed c i ∗ ow c (Ow c n) ∗ sendPay B c i ∗ recvPay B c i) -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 sS src dst hsrc hdst) fun _ => .op (.waitDma2 rS srcR dstR hsrcR hdstR) k) Q) := by
  unfold pend closed
  iintro ⟨#HK, #Hlev, ⟨HaS, HaR, HcR⟩, HcS, HO⟩ Hk
  iapply (wait_send B K i n hlv.1 hs hN) $$ [HcS HO HaS]
  · isplitr; · iexact HK
    isplitr; · iexact Hlev
    isplitl [HcS]; · iexact HcS
    isplitl [HO]; · iexact HO
    iexact HaS
  iintro ⟨HvS, HO, HpS⟩
  iapply (wait_recv B K i n hlv.2 hr hNR) $$ [HcR HO HaR]
  · isplitr; · iexact HK
    isplitr; · iexact Hlev
    isplitl [HcR]; · iexact HcR
    isplitl [HO]; · iexact HO
    iexact HaR
  iintro ⟨HvR, HO, HpR⟩
  iapply Hk
  isplitl [HvS HvR]
  · isplitl [HvS]; · iexact HvS
    iexact HvR
  isplitl [HO]; · iexact HO
  isplitl [HpS]; · iexact HpS
  iexact HpR

theorem hz2 : (![0, 0] : Fin 2 → Nat) = fun _ => 0 := funext fun a => by fin_cases a <;> rfl
theorem hz3 : (![0, 0, 0] : Fin 3 → Nat) = fun _ => 0 := funext fun a => by fin_cases a <;> rfl

/-- A load of a whole buffer reads its contents; a store to a whole buffer leaves what is stored. -/
theorem rd_i0 (f : Vec F S512x512 .bf16) :
    i0M.view.readAt (Elt F) (Rect.unit (s := S512x512) ![0, 0] S512x512.size inb_S512x512_S512x512_0_0).toLoadRect f = f :=
  Memref.readAt_unit_zero (Elt F) cc0_stg0_0 hz2 _ f
theorem rd_i1 (f : Vec F S512x1 .i32) :
    i1M.view.readAt (Elt F) (Rect.unit (s := S512x1) ![0, 0] S512x1.size inb_S512x1_S512x1_0_0).toLoadRect f = f :=
  Memref.readAt_unit_zero (Elt F) cc0_stg1_0 hz2 _ f
theorem rd_i2 (f : Vec F S2x512x1024 .bf16) :
    i2M.view.readAt (Elt F) (Rect.unit (s := S2x512x1024) ![0, 0, 0] S2x512x1024.size inb_S2x512x1024_S2x512x1024_0_0_0).toLoadRect f = f :=
  Memref.readAt_unit_zero (Elt F) cc0_stg2_0 hz3 _ f
theorem rd_i3 (f : Vec F S2x1024x512 .bf16) :
    i3M.view.readAt (Elt F) (Rect.unit (s := S2x1024x512) ![0, 0, 0] S2x1024x512.size inb_S2x1024x512_S2x1024x512_0_0_0).toLoadRect f = f :=
  Memref.readAt_unit_zero (Elt F) cc0_stg3_0 hz3 _ f
theorem rd_xs (f : Vec F S512x512 .bf16) :
    xsM.view.readAt (Elt F) (Rect.unit (s := S512x512) ![0, 0] S512x512.size inb_S512x512_S512x512_0_0).toLoadRect f = f :=
  Memref.readAt_unit_zero (Elt F) cc0_scratch0 hz2 _ f
theorem rd_as (f : Vec F S512x1 .i32) :
    asM.view.readAt (Elt F) (Rect.unit (s := S512x1) ![0, 0] S512x1.size inb_S512x1_S512x1_0_0).toLoadRect f = f :=
  Memref.readAt_unit_zero (Elt F) cc0_scratch2 hz2 _ f
theorem wr_xs (f w : Vec F S512x512 .bf16) :
    (xsM.access (Rect.unit (s := S512x512) ![0, 0] S512x512.size inb_S512x512_S512x512_0_0)).write (Elt F) f w Finset.univ = w :=
  Memref.write_access_unit_zero_univ (Elt F) cc0_scratch0 hz2 _ f w
theorem wr_as (f w : Vec F S512x1 .i32) :
    (asM.access (Rect.unit (s := S512x1) ![0, 0] S512x1.size inb_S512x1_S512x1_0_0)).write (Elt F) f w Finset.univ = w :=
  Memref.write_access_unit_zero_univ (Elt F) cc0_scratch2 hz2 _ f w
theorem wr_w1 (f w : Vec F S2x512x1024 .bf16) :
    (w1M.access (Rect.unit (s := S2x512x1024) ![0, 0, 0] S2x512x1024.size inb_S2x512x1024_S2x512x1024_0_0_0)).write (Elt F) f w Finset.univ = w :=
  Memref.write_access_unit_zero_univ (Elt F) cc0_scratch7 hz3 _ f w
theorem wr_w2 (f w : Vec F S2x1024x512 .bf16) :
    (w2M.access (Rect.unit (s := S2x1024x512) ![0, 0, 0] S2x1024x512.size inb_S2x1024x512_S2x1024x512_0_0_0)).write (Elt F) f w Finset.univ = w :=
  Memref.write_access_unit_zero_univ (Elt F) cc0_scratch8 hz3 _ f w
theorem wr_ou (f w : Vec F S512x512 .f32) :
    (ouM.access (Rect.unit (s := S512x512) ![0, 0] S512x512.size inb_S512x512_S512x512_0_0)).write (Elt F) f w Finset.univ = w :=
  Memref.write_access_unit_zero_univ (Elt F) cc0_stg4_0 hz2 _ f w

variable (B : Blocks F) (K : GSem nD τ sig → ℕ) (c : Dev nD)

theorem payload_true : (rd B).payload (barCell c) 0 true = barY c := rfl
theorem payload_false : (rd B).payload (barCell c) 0 false = barX c := rfl

/-- What a buffer holds outside a rectangle. -/
abbrev rest {s : Shape} {e : EltTy} (M : Memref sig .tc .vmem s e) (R : Rect s) (c : Dev nD) (q : PosShare TreeShare)
    (f : Buf (Elt F) (M.view.loc (c : Thread nD τ))) : sProp 𝕄 :=
  M.view.loc (c : Thread nD τ) ↦[M.view.set \ (M.view.slice R).set]{q} f

/-- The names of what the loads read. -/
theorem w1b_eq : k0_pay5 (B.w1 c) = w1b B c := rfl
theorem w2b_eq : k0_pay6 (B.w2 c) = w2b B c := rfl
theorem ld_10 : w1M.view.readAt (Elt F) E10.toLoadRect (w1b B c) = l10 B c := rfl
theorem ld_11 : w1M.view.readAt (Elt F) E11.toLoadRect (w1b B c) = l11 B c := rfl
theorem ld_20 : w2M.view.readAt (Elt F) E20.toLoadRect (w2b B c) = l20 B c := rfl
theorem ld_21 : w2M.view.readAt (Elt F) E21.toLoadRect (w2b B c) = l21 B c := rfl
theorem ld_x0 : xrM.view.readAt (Elt F) R0.toLoadRect (xr B c) = lx0 B c := rfl
theorem ld_x1 : xrM.view.readAt (Elt F) R1.toLoadRect (xr B c) = lx1 B c := rfl
theorem ld_a0 : arM.view.readAt (Elt F) A0.toLoadRect (arcv B c) = la0 B c := rfl
theorem ld_a1 : arM.view.readAt (Elt F) A1.toLoadRect (arcv B c) = la1 B c := rfl

/-- The bytes of each copy. -/
theorem cr_ar : (arM.view).dmaCredit = amt 0 := amt_A rfl
theorem cr_xr0 : (xrM.slice R0 (fun _ => rfl)).view.dmaCredit = amt 1 := amt_C rfl
theorem cr_xr1 : (xrM.slice R1 (fun _ => rfl)).view.dmaCredit = amt 2 := amt_C rfl

/-- A landing copy hands the receiver what its cell promises. -/
theorem give_a (fa : Buf (Elt F) (arM.view.loc (yp c : Thread nD τ))) :
    (arM.view.loc (yp c : Thread nD τ) ↦[arM.view.set]{fullShare} (arM.view.write (Elt F) fa ((asM.slice (SA c) (fun _ => rfl)).view.read (Elt F) (asnd B c)) Finset.univ) : sProp 𝕄)
      ⊢ recvPay B (tgt c 0) 0 :=
  Entails.of_eq (congrArg (all arM (yp c) fullShare) (land_a c fa))

/-- The handshake: both peers are signalled, and both peers' signals waited for; the tokens are stored to be sent. -/
theorem part1_run (f5 : Buf (Elt F) (xsM.view.loc (c : Thread nD τ))) (f7 : Buf (Elt F) (asM.view.loc (c : Thread nD τ)))
    (Kt : (Σ' (d0 : Dev nD) (v2 : BitVec 32) (v5 : BitVec 32) (v6 : BitVec 32) (v7 : BitVec 32) (v8 : BitVec 32) (v10 : BitVec 32) (v26 : IVec S512x1 32), Vec F S512x1 .i32) → sProp 𝕄) :
    iprop(records B K ∗ levAts L lv ∗ (atPos ER (barCell c) 0 ∅ 0 ∗ cred (tallyAt (barCell c) () 2)
        ∗ dutyTok ER (barCell (yp c)) 0 true ∗ dutyTok ER (barCell (xp c)) 0 false ∗ reached ER (barCell (yp c)) 0 ∗ reached ER (barCell (xp c)) 0)
      ∗ ow c (O₀ c) ∗ barY (yp c) ∗ barX (xp c)
      ∗ all i0M c fullShare (B.x c) ∗ all i1M c fullShare (B.a c) ∗ all xsM c fullShare f5 ∗ all asM c fullShare f7
      ∗ ((semVal (barCell c) 0 ∗ ow c (Ow c 0) ∗ barY c ∗ barX c
        ∗ all i0M c fullShare (B.x c) ∗ all i1M c fullShare (B.a c) ∗ all xsM c fullShare (xs B c) ∗ all asM c fullShare f7)
        -∗ Kt ⟨c, Scalar.remsi (Scalar.divsi (Dev.word c) 2#32) 2#32, w5 c, Scalar.subi 1#32 (w5 c),
            Scalar.subi 1#32 (Scalar.remsi (Scalar.divsi (Dev.word c) 2#32) 2#32), Scalar.muli (Scalar.remsi (Scalar.divsi (Dev.word c) 2#32) 2#32) 256#32,
            Scalar.muli (Scalar.subi 1#32 (Scalar.remsi (Scalar.divsi (Dev.word c) 2#32) 2#32)) 256#32, k0_pay3 (B.a c), f7⟩))
    ⊢ wp frame (wpE (defs₀ (F := F)) 𝒱₀ (c : Thread nD τ) none) Set.univ
      (k0_part1 i0M (Memref.isWhole_whole _) i1M (Memref.isWhole_whole _) i2M (Memref.isWhole_whole _) i3M (Memref.isWhole_whole _) ouM (Memref.isWhole_whole _) xsM (Memref.isWhole_whole _) xrM (Memref.isWhole_whole _) asM (Memref.isWhole_whole _) arM (Memref.isWhole_whole _) csM (Memref.isWhole_whole _) cdM (Memref.isWhole_whole _) cfM (Memref.isWhole_whole _) w1M (Memref.isWhole_whole _) w2M (Memref.isWhole_whole _) cc0_scratch9 cc0_scratch10) Kt := by
  rw [k0_part1_eq_skeleton]; unfold k0_part1_skel
  simp only [semSignalWord, semWaitWord, Prog.lift, Prog.bind_op, Prog.bind_ret, Prog.pure_eq_ret, wp_deviceId, dev1_eq, dev2_eq]
  iintro ⟨#HK, #Hlev, ⟨Hat, Hcb, HtY, HtX, #HrY, #HrX⟩, HO, HY, HX, Hi0, Hi1, Hxs, Has, Hk⟩
  unfold ow
  icases HO with ⟨%W, HO⟩
  iapply (Rounds.wp_signal 𝒱₀ ER (rd B) (c : Thread nD τ) none (dst := (yp c : Thread nD τ)) (sem := barS) (r := 0) (d := true) (κ := K (barCell (yp c)))
      (by rw [duties_bar]; exact Finset.mem_univ _) rfl () (Ow c 0 + tallyAt (barCell (xp c)) () 1) rfl (W := W)) $$ [HO HtY HY]
  · isplitr; · iapply (inv_bar B (yp c) K); iexact HK
    isplitl [HO]; · iexact HO
    isplitl [HtY]; · iexact HtY
    isplitl [HY]; · rw [payload_true]; iexact HY
    iexact HrY
  iintro HO
  iapply (Rounds.wp_signal 𝒱₀ ER (rd B) (c : Thread nD τ) none (dst := (xp c : Thread nD τ)) (sem := barS) (r := 0) (d := false) (κ := K (barCell (xp c)))
      (by rw [duties_bar]; exact Finset.mem_univ _) rfl () (Ow c 0) rfl (W := W)) $$ [HO HtX HX]
  · isplitr; · iapply (inv_bar B (xp c) K); iexact HK
    isplitl [HO]; · iexact HO
    isplitl [HtX]; · iexact HtX
    isplitl [HX]; · rw [payload_false]; iexact HX
    iexact HrX
  iintro HO
  iapply (Rounds.wp_wait_rest_token 𝒱₀ ER (rd B) (c : Thread nD τ) none (κ := K (barCell c))
      (wpE_semWait_eq 𝒱₀ (c : Thread nD τ) none Set.univ) (Set.mem_univ _) () (O := Ow c 0) (W := W) (R := 0) (m := 0) (T := ∅)
      ((Nat.zero_add 2).trans (expect_bar B c).symm)) $$ [Hcb HO Hat]
  · isplitr; · iapply (inv_bar B c K); iexact HK
    isplitl [Hcb]; · iexact Hcb
    isplitl [HO]; · iexact HO
    isplitr; · iapply (mayWait c 0 (.reg barS) (by decide)); iexact Hlev
    iexact Hat
  iintro ⟨HO, Hat, -, Hpay⟩
  ihave Hp := (Entails.of_eq (rest_bar B c)) $$ Hpay
  icases Hp with ⟨HY, HX⟩
  imod (close B (K (barCell c)) (barCell c)) $$ [Hat] with Hv
  · isplitr; · iapply (inv_bar B c K); iexact HK
    iexact Hat
  iapply load_all $$ Hi0; iintro Hi0
  iapply load_all $$ Hxs; iintro Hxs
  iapply store_all $$ Hxs; iintro Hxs
  iapply load_all $$ Hi1; iintro Hi1
  iapply load_all $$ Has; iintro Has
  rw [wp_ret]; imodintro
  rw [rd_i0, rd_i1, rd_as, wr_xs]
  iapply Hk
  isplitl [Hv]; · iexact Hv
  isplitl [HO]; · iexists _; iexact HO
  isplitl [HY]; · iexact HY
  isplitl [HX]; · iexact HX
  isplitl [Hi0]; · iexact Hi0
  isplitl [Hi1]; · iexact Hi1
  isplitl [Hxs]; · iexact Hxs
  iexact Has

/-- The assignment is stored; half of it and the first chunk of the tokens are sent. -/
theorem part2_run (v2 v6 v8 : BitVec 32) (v27 : Vec F S512x1 .i32) (f7 : Buf (Elt F) (asM.view.loc (c : Thread nD τ)))
    (Kt : PUnit → sProp 𝕄) :
    iprop(records B K ∗ ticket c 0 ∗ ticket c 1 ∗ reached ER (recvCell (tgt c 0) 0) 0 ∗ reached ER (recvCell (tgt c 1) 1) 0
      ∗ ow c (Ow c 0) ∗ all asM c fullShare f7 ∗ part xsM (X0 c) c fullShare.right (xs B c) ∗ anyAll arM (yp c) ∗ anyPart xrM R0 (yp c)
      ∗ ((cred (tallyAt (sendCell c 0) () (amt 0)) ∗ cred (tallyAt (sendCell c 1) () (amt 1)) ∗ ow c (Ow c 2)
        ∗ rest asM (SA c) c fullShare (asnd B c)) -∗ Kt ⟨⟩))
    ⊢ wp frame (wpE (defs₀ (F := F)) 𝒱₀ (c : Thread nD τ) none) Set.univ
      (k0_part2 i0M (Memref.isWhole_whole _) i1M (Memref.isWhole_whole _) i2M (Memref.isWhole_whole _) i3M (Memref.isWhole_whole _) ouM (Memref.isWhole_whole _) xsM (Memref.isWhole_whole _) xrM (Memref.isWhole_whole _) asM (Memref.isWhole_whole _) arM (Memref.isWhole_whole _) csM (Memref.isWhole_whole _) cdM (Memref.isWhole_whole _) cfM (Memref.isWhole_whole _) w1M (Memref.isWhole_whole _) w2M (Memref.isWhole_whole _) cc0_scratch9 cc0_scratch10 c v2 v6 v8 (k0_pay3 (B.a c)) v27) Kt := by
  rw [k0_part2_eq_skeleton]; unfold k0_part2_skel
  simp only [Prog.lift, Prog.bind_op, Prog.bind_ret, Prog.pure_eq_ret]
  unfold anyAll anyPart
  iintro ⟨#HK, Ht0, Ht1, #Hr0, #Hr1, HO, Has, Hx0, ⟨%fa, Har⟩, ⟨%fx, Hxr⟩, Hk⟩
  iapply store_all $$ Has; iintro Has
  rw [wr_as]
  ihave Has := (pointsTo_split_subset (View.set_slice_subset asM.view (SA c))).1 $$ Has
  icases Has with ⟨Has, Hrest⟩
  iapply (send_step B K (c := c) (i := 0) (src := asM.slice (SA c) (fun _ => rfl)) (dst := arM) (q := fullShare) (fs := asnd B c) (dev3_eq c) rfl rfl cr_ar fa (Entails.refl _) (give_a B c fa) (n := 0) (n' := 1) rfl rfl) $$ [Ht0 HO Has Har]
  · isplitr; · iexact HK
    isplitl [Ht0]; · iexact Ht0
    isplitr; · iexact Hr0
    isplitl [HO]; · iexact HO
    isplitl [Has]; · iexact Has
    iexact Har
  iintro ⟨Hc0, HO⟩
  iapply (send_step B K (c := c) (i := 1) (src := xsM.slice (X0 c) (fun _ => rfl)) (dst := xrM.slice R0 (fun _ => rfl)) (q := fullShare.right) (fs := xs B c) (dev4_eq c) rfl rfl cr_xr0 fx (Entails.refl _) (Entails.of_eq (pointsTo_congr (land_x0 c fx)))
      (n := 1) (n' := 2) rfl rfl) $$ [Ht1 HO Hx0 Hxr]
  · isplitr; · iexact HK
    isplitl [Ht1]; · iexact Ht1
    isplitr; · iexact Hr1
    isplitl [HO]; · iexact HO
    isplitl [Hx0]; · iexact Hx0
    iexact Hxr
  iintro ⟨Hc1, HO⟩
  rw [wp_ret]; imodintro
  iapply Hk
  isplitl [Hc0]; · iexact Hc0
  isplitl [Hc1]; · iexact Hc1
  isplitl [HO]; · iexact HO
  iexact Hrest

/-- The second chunk of the tokens is sent; the weights are stored; the first expert is run on the own tokens. -/
theorem part3_run (g7 : Buf (Elt F) (w1M.view.loc (c : Thread nD τ))) (g8 : Buf (Elt F) (w2M.view.loc (c : Thread nD τ)))
    (Kt : (Σ' (v71 : Vec F S512x512 .bf16) (v73 : IVec S512x1 32) (v74 : FVec F S512x512 .f32) (v85 : FVec F S512x512 .f32) (cst_71 : F .f32), IVec S512x1 1) → sProp 𝕄) :
    iprop(records B K ∗ ticket c 2 ∗ reached ER (recvCell (tgt c 2) 2) 0
      ∗ ow c (Ow c 2) ∗ part xsM (X1 c) c fullShare.right (xs B c) ∗ anyPart xrM R1 (yp c)
      ∗ all i1M c fullShare (B.a c) ∗ all i2M c fullShare (B.w1 c) ∗ all i3M c fullShare (B.w2 c)
      ∗ all xsM c fullShare.left (xs B c) ∗ all w1M c fullShare g7 ∗ all w2M c fullShare g8
      ∗ ((cred (tallyAt (sendCell c 2) () (amt 2)) ∗ ow c (Ow c 3)
        ∗ all i1M c fullShare (B.a c) ∗ all i2M c fullShare (B.w1 c) ∗ all i3M c fullShare (B.w2 c)
        ∗ all xsM c fullShare.left (xs B c) ∗ all w1M c fullShare (w1b B c) ∗ all w2M c fullShare (w2b B c))
        -∗ Kt ⟨xs B c, k0_pay7 (B.a c), k0_pay8 (F := F), k0_pay9 (xs B c) (l10 B c) (l20 B c), Scalar.ofBits .f32 0x00000000#32, k0_pay10 (w5 c) (B.a c)⟩))
    ⊢ wp frame (wpE (defs₀ (F := F)) 𝒱₀ (c : Thread nD τ) none) Set.univ
      (k0_part3 i0M (Memref.isWhole_whole _) i1M (Memref.isWhole_whole _) i2M (Memref.isWhole_whole _) i3M (Memref.isWhole_whole _) ouM (Memref.isWhole_whole _) xsM (Memref.isWhole_whole _) xrM (Memref.isWhole_whole _) asM (Memref.isWhole_whole _) arM (Memref.isWhole_whole _) csM (Memref.isWhole_whole _) cdM (Memref.isWhole_whole _) cfM (Memref.isWhole_whole _) w1M (Memref.isWhole_whole _) w2M (Memref.isWhole_whole _) cc0_scratch9 cc0_scratch10 c (w5 c)) Kt := by
  rw [k0_part3_eq_skeleton]; unfold k0_part3_skel
  simp only [Prog.lift, Prog.bind_op, Prog.bind_ret, Prog.pure_eq_ret]
  unfold anyPart
  iintro ⟨#HK, Ht2, #Hr2, HO, Hx1, ⟨%fx, Hxr⟩, Hi1, Hi2, Hi3, Hxs, Hw1, Hw2, Hk⟩
  iapply (send_step B K (c := c) (i := 2) (src := xsM.slice (X1 c) (fun _ => rfl)) (dst := xrM.slice R1 (fun _ => rfl)) (q := fullShare.right) (fs := xs B c) (dev5_eq c) rfl rfl cr_xr1 fx (Entails.refl _) (Entails.of_eq (pointsTo_congr (land_x1 c fx)))
      (n := 2) (n' := 3) rfl rfl) $$ [Ht2 HO Hx1 Hxr]
  · isplitr; · iexact HK
    isplitl [Ht2]; · iexact Ht2
    isplitr; · iexact Hr2
    isplitl [HO]; · iexact HO
    isplitl [Hx1]; · iexact Hx1
    iexact Hxr
  iintro ⟨Hc2, HO⟩
  iapply load_all $$ Hi2; iintro Hi2
  iapply load_all $$ Hw1; iintro Hw1
  iapply store_all $$ Hw1; iintro Hw1
  iapply load_all $$ Hi3; iintro Hi3
  iapply load_all $$ Hw2; iintro Hw2
  iapply store_all $$ Hw2; iintro Hw2
  iapply load_all $$ Hxs; iintro Hxs
  iapply load_all $$ Hi1; iintro Hi1
  rw [wr_w1, wr_w2, rd_i2, rd_i3, rd_xs, rd_i1, w1b_eq, w2b_eq]
  iapply load_all $$ Hw1; iintro Hw1
  iapply load_all $$ Hw2; iintro Hw2
  rw [ld_10, ld_20, wp_ret]; imodintro
  iapply Hk
  isplitl [Hc2]; · iexact Hc2
  isplitl [HO]; · iexact HO
  isplitl [Hi1]; · iexact Hi1
  isplitl [Hi2]; · iexact Hi2
  isplitl [Hi3]; · iexact Hi3
  isplitl [Hxs]; · iexact Hxs
  isplitl [Hw1]; · iexact Hw1
  iexact Hw2

end Cert.Moe
-- ==== Proof.Body2.lean ====
/-
The second half of the kernel's run on device `c`: the arrivals, the own experts on the peer's tokens, the sums back and forwarded.
-/
module

public import proofs.«01_k».proof.Proof.Body1

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The bytes of each copy, by its destination and by its source -/

theorem cr_sa (c : Dev nD) : (asM.slice (SA c) (fun _ => rfl)).view.dmaCredit = amt 0 := amt_A rfl
theorem cr_x0 (c : Dev nD) : (xsM.slice (X0 c) (fun _ => rfl)).view.dmaCredit = amt 1 := amt_C rfl
theorem cr_x1 (c : Dev nD) : (xsM.slice (X1 c) (fun _ => rfl)).view.dmaCredit = amt 2 := amt_C rfl
theorem cr_s0 : (csM.slice R0 (fun _ => rfl)).view.dmaCredit = amt 3 := amt_C rfl
theorem cr_s1 : (csM.slice R1 (fun _ => rfl)).view.dmaCredit = amt 4 := amt_C rfl
theorem cr_d0 : (cdM.slice R0 (fun _ => rfl)).view.dmaCredit = amt 5 := amt_C rfl
theorem cr_d1 : (cdM.slice R1 (fun _ => rfl)).view.dmaCredit = amt 6 := amt_C rfl
theorem cr3 : (cdM.slice R0 (fun _ => rfl)).view.dmaCredit = amt 3 := amt_C rfl
theorem cr4 : (cdM.slice R1 (fun _ => rfl)).view.dmaCredit = amt 4 := amt_C rfl
theorem cr5 : (cfM.slice R0 (fun _ => rfl)).view.dmaCredit = amt 5 := amt_C rfl
theorem cr6 : (cfM.slice R1 (fun _ => rfl)).view.dmaCredit = amt 6 := amt_C rfl

variable (B : Blocks F) (K : GSem nD τ sig → ℕ) (c : Dev nD)

/-- What each wait brings. -/
theorem sendPay_0 : sendPay B c 0 = part asM (SA c) c fullShare (asnd B c) := rfl
theorem sendPay_1 : sendPay B c 1 = part xsM (X0 c) c fullShare.right (xs B c) := rfl
theorem sendPay_2 : sendPay B c 2 = part xsM (X1 c) c fullShare.right (xs B c) := rfl
theorem sendPay_3 : sendPay B c 3 = part csM R0 c fullShare (cs B c) := rfl
theorem sendPay_4 : sendPay B c 4 = part csM R1 c fullShare (cs B c) := rfl
theorem sendPay_5 : sendPay B c 5 = part cdM R0 c fullShare.right (crd B c) := rfl
theorem sendPay_6 : sendPay B c 6 = part cdM R1 c fullShare.right (crd B c) := rfl
theorem recvPay_0 : recvPay B c 0 = all arM c fullShare (arcv B c) := rfl
theorem recvPay_1 : recvPay B c 1 = part xrM R0 c fullShare (xr B c) := rfl
theorem recvPay_2 : recvPay B c 2 = part xrM R1 c fullShare (xr B c) := rfl
theorem recvPay_3 : recvPay B c 3 = part cdM R0 c fullShare (crd B c) := rfl
theorem recvPay_4 : recvPay B c 4 = part cdM R1 c fullShare (crd B c) := rfl
theorem recvPay_5 : recvPay B c 5 = part cfM R0 c fullShare (crf B c) := rfl
theorem recvPay_6 : recvPay B c 6 = part cfM R1 c fullShare (crf B c) := rfl

theorem o2_eq : (ouM.access (O1 c)).write (Elt F) (o1 B c)
    (k0_pay21 (ouM.view.readAt (Elt F) (O1 c).toLoadRect (o1 B c)) (cdM.view.readAt (Elt F) R1.toLoadRect (crd B c))) Finset.univ = o2 B c := rfl

/-- The own experts' sums are stored; the first copies are waited for. -/
theorem part4_run (v2 v6 : BitVec 32) (f4 : Buf (Elt F) (ouM.view.loc (c : Thread nD τ)))
    (Kt : PUnit → sProp 𝕄) :
    iprop(records B K ∗ levAts L lv ∗ pend c 0 ∗ cred (tallyAt (sendCell c 0) () (amt 0)) ∗ ow c (Ow c 3) ∗ all w1M c fullShare (w1b B c) ∗ all w2M c fullShare (w2b B c) ∗ all ouM c fullShare f4
      ∗ ((closed c 0 ∗ ow c (Ow c 3) ∗ part asM (SA c) c fullShare (asnd B c) ∗ all arM c fullShare (arcv B c) ∗ all w1M c fullShare (w1b B c) ∗ all w2M c fullShare (w2b B c) ∗ all ouM c fullShare (o0 B c))
        -∗ Kt ⟨⟩))
    ⊢ wp frame (wpE (defs₀ (F := F)) 𝒱₀ (c : Thread nD τ) none) Set.univ
      (k0_part4 i0M (Memref.isWhole_whole _) i1M (Memref.isWhole_whole _) i2M (Memref.isWhole_whole _) i3M (Memref.isWhole_whole _) ouM (Memref.isWhole_whole _) xsM (Memref.isWhole_whole _) xrM (Memref.isWhole_whole _) asM (Memref.isWhole_whole _) arM (Memref.isWhole_whole _) csM (Memref.isWhole_whole _) cdM (Memref.isWhole_whole _) cfM (Memref.isWhole_whole _) w1M (Memref.isWhole_whole _) w2M (Memref.isWhole_whole _) cc0_scratch9 cc0_scratch10 c v2 (w5 c) v6 (xs B c) (k0_pay7 (B.a c)) (k0_pay8 (F := F)) (k0_pay9 (xs B c) (l10 B c) (l20 B c)) (Scalar.ofBits .f32 0x00000000#32) (k0_pay10 (w5 c) (B.a c))) Kt := by
  rw [k0_part4_eq_skeleton]; unfold k0_part4_skel
  simp only [Prog.lift, Prog.bind_op, Prog.bind_ret, Prog.pure_eq_ret]
  iintro ⟨#HK, #Hlev, Hp0, Hc0, HO, Hw1, Hw2, Hou, Hk⟩
  iapply load_all $$ Hw1; iintro Hw1
  iapply load_all $$ Hw2; iintro Hw2
  iapply load_all $$ Hou; iintro Hou
  iapply store_all $$ Hou; iintro Hou
  rw [wr_ou]
  iapply (wait_both B K 0 3 (by decide) rfl rfl (cr_sa c) cr_ar) $$ [Hp0 Hc0 HO]
  · isplitr; · iexact HK
    isplitr; · iexact Hlev
    isplitl [Hp0]; · iexact Hp0
    isplitl [Hc0]; · iexact Hc0
    iexact HO
  rw [sendPay_0, recvPay_0]
  iintro ⟨Hv0, HO, Has, Har⟩
  rw [wp_ret]; imodintro
  iapply Hk
  isplitl [Hv0]; · iexact Hv0
  isplitl [HO]; · iexact HO
  isplitl [Has]; · iexact Has
  isplitl [Har]; · iexact Har
  isplitl [Hw1]; · iexact Hw1
  isplitl [Hw2]; · iexact Hw2
  iexact Hou

/-- The first chunk of the tokens arrives. -/
theorem part5_run (v2 v6 : BitVec 32)
    (Kt : (Σ' (v134 : Vec F S128x512 .bf16) (v135 : Vec F S128x1 .i32) (v136 : FVec F S128x512 .f32) (v147 : FVec F S128x512 .f32), IVec S128x1 1) → sProp 𝕄) :
    iprop(records B K ∗ levAts L lv ∗ ow c (Ow c 3) ∗ pend c 1 ∗ cred (tallyAt (sendCell c 1) () (amt 1)) ∗ all arM c fullShare (arcv B c) ∗ all w1M c fullShare (w1b B c) ∗ all w2M c fullShare (w2b B c)
      ∗ ((ow c (Ow c 3) ∗ closed c 1 ∗ part xsM (X0 c) c fullShare.right (xs B c) ∗ part xrM R0 c fullShare (xr B c) ∗ all arM c fullShare (arcv B c) ∗ all w1M c fullShare (w1b B c) ∗ all w2M c fullShare (w2b B c))
        -∗ Kt ⟨lx0 B c, la0 B c, k0_pay12 (F := F), k0_pay13 (lx0 B c) (l10 B c) (l20 B c), k0_pay14 (w5 c) (la0 B c)⟩))
    ⊢ wp frame (wpE (defs₀ (F := F)) 𝒱₀ (c : Thread nD τ) none) Set.univ
      (k0_part5 i0M (Memref.isWhole_whole _) i1M (Memref.isWhole_whole _) i2M (Memref.isWhole_whole _) i3M (Memref.isWhole_whole _) ouM (Memref.isWhole_whole _) xsM (Memref.isWhole_whole _) xrM (Memref.isWhole_whole _) asM (Memref.isWhole_whole _) arM (Memref.isWhole_whole _) csM (Memref.isWhole_whole _) cdM (Memref.isWhole_whole _) cfM (Memref.isWhole_whole _) w1M (Memref.isWhole_whole _) w2M (Memref.isWhole_whole _) cc0_scratch9 cc0_scratch10 c v2 (w5 c) v6) Kt := by
  rw [k0_part5_eq_skeleton]; unfold k0_part5_skel
  simp only [Prog.lift, Prog.bind_op, Prog.bind_ret, Prog.pure_eq_ret]
  iintro ⟨#HK, #Hlev, HO, Hp1, Hc1, Har, Hw1, Hw2, Hk⟩
  iapply (wait_both B K 1 3 (by decide) rfl rfl (cr_x0 c) cr_xr0) $$ [Hp1 Hc1 HO]
  · isplitr; · iexact HK
    isplitr; · iexact Hlev
    isplitl [Hp1]; · iexact Hp1
    isplitl [Hc1]; · iexact Hc1
    iexact HO
  rw [sendPay_1, recvPay_1]
  iintro ⟨Hv1, HO, Hx, Hxr⟩
  iapply load_part $$ Hxr; iintro Hxr
  iapply load_all $$ Har; iintro Har
  iapply load_all $$ Hw1; iintro Hw1
  iapply load_all $$ Hw2; iintro Hw2
  rw [ld_x0, ld_a0, ld_10, ld_20]
  rw [wp_ret]; imodintro
  iapply Hk
  isplitl [HO]; · iexact HO
  isplitl [Hv1]; · iexact Hv1
  isplitl [Hx]; · iexact Hx
  isplitl [Hxr]; · iexact Hxr
  isplitl [Har]; · iexact Har
  isplitl [Hw1]; · iexact Hw1
  iexact Hw2

/-- The own experts' sums on the first chunk are stored. -/
theorem part6_run (v2 v6 : BitVec 32) (f9 : Buf (Elt F) (csM.view.loc (c : Thread nD τ)))
    (Kt : PUnit → sProp 𝕄) :
    iprop(all w1M c fullShare (w1b B c) ∗ all w2M c fullShare (w2b B c) ∗ part csM R0 c fullShare f9
      ∗ ((all w1M c fullShare (w1b B c) ∗ all w2M c fullShare (w2b B c) ∗ part csM R0 c fullShare (cs B c))
        -∗ Kt ⟨⟩))
    ⊢ wp frame (wpE (defs₀ (F := F)) 𝒱₀ (c : Thread nD τ) none) Set.univ
      (k0_part6 i0M (Memref.isWhole_whole _) i1M (Memref.isWhole_whole _) i2M (Memref.isWhole_whole _) i3M (Memref.isWhole_whole _) ouM (Memref.isWhole_whole _) xsM (Memref.isWhole_whole _) xrM (Memref.isWhole_whole _) asM (Memref.isWhole_whole _) arM (Memref.isWhole_whole _) csM (Memref.isWhole_whole _) cdM (Memref.isWhole_whole _) cfM (Memref.isWhole_whole _) w1M (Memref.isWhole_whole _) w2M (Memref.isWhole_whole _) cc0_scratch9 cc0_scratch10 v2 (w5 c) v6 (lx0 B c) (la0 B c) (k0_pay12 (F := F)) (k0_pay13 (lx0 B c) (l10 B c) (l20 B c)) (k0_pay14 (w5 c) (la0 B c))) Kt := by
  rw [k0_part6_eq_skeleton]; unfold k0_part6_skel
  simp only [Prog.lift, Prog.bind_op, Prog.bind_ret, Prog.pure_eq_ret]
  iintro ⟨Hw1, Hw2, Hcs, Hk⟩
  iapply load_all $$ Hw1; iintro Hw1
  iapply load_all $$ Hw2; iintro Hw2
  iapply load_part $$ Hcs; iintro Hcs
  iapply store_part $$ Hcs; iintro Hcs
  rw [ld_11, ld_21]
  ihave Hcs := (Entails.of_eq (pointsTo_congr (cs_on0 c f9))) $$ Hcs
  rw [wp_ret]; imodintro
  iapply Hk
  isplitl [Hw1]; · iexact Hw1
  isplitl [Hw2]; · iexact Hw2
  iexact Hcs

/-- The first chunk of the sums is sent back; the second chunk of the tokens arrives. -/
theorem part7_run (v2 v6 : BitVec 32) (fd : Buf (Elt F) (cdM.view.loc (yp c : Thread nD τ)))
    (Kt : (Σ' (v199 : Vec F S128x512 .bf16) (v200 : Vec F S128x1 .i32) (v201 : FVec F S128x512 .f32) (v203 : BitVec 32) (v209 : FVec F S128x1024 .bf16) (v211 : FVec F S1024x512 .bf16), FVec F S128x512 .f32) → sProp 𝕄) :
    iprop(records B K ∗ levAts L lv ∗ ticket c 3 ∗ reached ER (recvCell (tgt c 3) 3) 0 ∗ ow c (Ow c 3) ∗ part csM R0 c fullShare (cs B c) ∗ part cdM R0 (yp c) fullShare fd ∗ pend c 2 ∗ cred (tallyAt (sendCell c 2) () (amt 2)) ∗ all arM c fullShare (arcv B c) ∗ all w1M c fullShare (w1b B c) ∗ all w2M c fullShare (w2b B c)
      ∗ ((cred (tallyAt (sendCell c 3) () (amt 3)) ∗ ow c (Ow c 4) ∗ closed c 2 ∗ part xsM (X1 c) c fullShare.right (xs B c) ∗ part xrM R1 c fullShare (xr B c) ∗ all arM c fullShare (arcv B c) ∗ all w1M c fullShare (w1b B c) ∗ all w2M c fullShare (w2b B c))
        -∗ Kt ⟨lx1 B c, la1 B c, k0_pay16 (F := F), Scalar.addi (Scalar.muli (w5 c) 2#32) 0#32, k0_pay17 (lx1 B c) (l10 B c), k0_pay18 (l20 B c), constant S128x512 .f32 0x00000000#32⟩))
    ⊢ wp frame (wpE (defs₀ (F := F)) 𝒱₀ (c : Thread nD τ) none) Set.univ
      (k0_part7 i0M (Memref.isWhole_whole _) i1M (Memref.isWhole_whole _) i2M (Memref.isWhole_whole _) i3M (Memref.isWhole_whole _) ouM (Memref.isWhole_whole _) xsM (Memref.isWhole_whole _) xrM (Memref.isWhole_whole _) asM (Memref.isWhole_whole _) arM (Memref.isWhole_whole _) csM (Memref.isWhole_whole _) cdM (Memref.isWhole_whole _) cfM (Memref.isWhole_whole _) w1M (Memref.isWhole_whole _) w2M (Memref.isWhole_whole _) cc0_scratch9 cc0_scratch10 c v2 (w5 c) v6) Kt := by
  rw [k0_part7_eq_skeleton]; unfold k0_part7_skel
  simp only [Prog.lift, Prog.bind_op, Prog.bind_ret, Prog.pure_eq_ret]
  iintro ⟨#HK, #Hlev, Ht3, #Hr3, HO, Hcs, Hcd, Hp2, Hc2, Har, Hw1, Hw2, Hk⟩
  iapply (send_step B K (c := c) (i := 3) (src := csM.slice R0 (fun _ => rfl)) (dst := cdM.slice R0 (fun _ => rfl)) (q := fullShare) (fs := cs B c)
      (dev6_eq c) rfl rfl cr3 fd (Entails.refl _) (Entails.of_eq (pointsTo_congr (land_s R0 c fd))) (n := 3) (n' := 4) rfl rfl) $$ [Ht3 HO Hcs Hcd]
  · isplitr; · iexact HK
    isplitl [Ht3]; · iexact Ht3
    isplitr; · iexact Hr3
    isplitl [HO]; · iexact HO
    isplitl [Hcs]; · iexact Hcs
    iexact Hcd
  iintro ⟨Hc3, HO⟩
  iapply (wait_both B K 2 4 (by decide) rfl rfl (cr_x1 c) cr_xr1) $$ [Hp2 Hc2 HO]
  · isplitr; · iexact HK
    isplitr; · iexact Hlev
    isplitl [Hp2]; · iexact Hp2
    isplitl [Hc2]; · iexact Hc2
    iexact HO
  rw [sendPay_2, recvPay_2]
  iintro ⟨Hv2, HO, Hx, Hxr⟩
  iapply load_part $$ Hxr; iintro Hxr
  iapply load_all $$ Har; iintro Har
  iapply load_all $$ Hw1; iintro Hw1
  iapply load_all $$ Hw2; iintro Hw2
  rw [ld_x1, ld_a1, ld_10, ld_20]
  rw [wp_ret]; imodintro
  iapply Hk
  isplitl [Hc3]; · iexact Hc3
  isplitl [HO]; · iexact HO
  isplitl [Hv2]; · iexact Hv2
  isplitl [Hx]; · iexact Hx
  isplitl [Hxr]; · iexact Hxr
  isplitl [Har]; · iexact Har
  isplitl [Hw1]; · iexact Hw1
  iexact Hw2

/-- The own experts' sums on the second chunk are stored. -/
theorem part8_run (v2 v6 : BitVec 32) (f9 : Buf (Elt F) (csM.view.loc (c : Thread nD τ)))
    (Kt : PUnit → sProp 𝕄) :
    iprop(all w1M c fullShare (w1b B c) ∗ all w2M c fullShare (w2b B c) ∗ part csM R1 c fullShare f9
      ∗ ((all w1M c fullShare (w1b B c) ∗ all w2M c fullShare (w2b B c) ∗ part csM R1 c fullShare (cs B c))
        -∗ Kt ⟨⟩))
    ⊢ wp frame (wpE (defs₀ (F := F)) 𝒱₀ (c : Thread nD τ) none) Set.univ
      (k0_part8 i0M (Memref.isWhole_whole _) i1M (Memref.isWhole_whole _) i2M (Memref.isWhole_whole _) i3M (Memref.isWhole_whole _) ouM (Memref.isWhole_whole _) xsM (Memref.isWhole_whole _) xrM (Memref.isWhole_whole _) asM (Memref.isWhole_whole _) arM (Memref.isWhole_whole _) csM (Memref.isWhole_whole _) cdM (Memref.isWhole_whole _) cfM (Memref.isWhole_whole _) w1M (Memref.isWhole_whole _) w2M (Memref.isWhole_whole _) cc0_scratch9 cc0_scratch10 v2 (w5 c) v6 (lx1 B c) (la1 B c) (k0_pay16 (F := F)) (Scalar.addi (Scalar.muli (w5 c) 2#32) 0#32) (k0_pay17 (lx1 B c) (l10 B c)) (k0_pay18 (l20 B c)) (constant S128x512 .f32 0x00000000#32)) Kt := by
  rw [k0_part8_eq_skeleton]; unfold k0_part8_skel
  simp only [Prog.lift, Prog.bind_op, Prog.bind_ret, Prog.pure_eq_ret]
  iintro ⟨Hw1, Hw2, Hcs, Hk⟩
  iapply load_all $$ Hw1; iintro Hw1
  iapply load_all $$ Hw2; iintro Hw2
  iapply load_part $$ Hcs; iintro Hcs
  iapply store_part $$ Hcs; iintro Hcs
  rw [ld_11, ld_21]
  ihave Hcs := (Entails.of_eq (pointsTo_congr (cs_on1 c f9))) $$ Hcs
  rw [wp_ret]; imodintro
  iapply Hk
  isplitl [Hw1]; · iexact Hw1
  isplitl [Hw2]; · iexact Hw2
  iexact Hcs

/-- The second chunk of the sums is sent back; the first chunk that came back is forwarded. -/
theorem part9_run (v2 v6 v7 v8 : BitVec 32) (fd : Buf (Elt F) (cdM.view.loc (yp c : Thread nD τ))) (ff : Buf (Elt F) (cfM.view.loc (xp c : Thread nD τ)))
    (Kt : BitVec 32 → sProp 𝕄) :
    iprop(records B K ∗ levAts L lv ∗ ticket c 4 ∗ reached ER (recvCell (tgt c 4) 4) 0 ∗ ticket c 5 ∗ reached ER (recvCell (tgt c 5) 5) 0 ∗ ow c (Ow c 4)
      ∗ part csM R1 c fullShare (cs B c) ∗ part cdM R1 (yp c) fullShare fd ∗ part cfM R0 (xp c) fullShare ff ∗ pend c 3 ∗ cred (tallyAt (sendCell c 3) () (amt 3))
      ∗ ((cred (tallyAt (sendCell c 4) () (amt 4)) ∗ cred (tallyAt (sendCell c 5) () (amt 5)) ∗ ow c (Ow c 6) ∗ closed c 3 ∗ part csM R0 c fullShare (cs B c) ∗ part cdM R0 c fullShare.left (crd B c))
        -∗ Kt (Scalar.addi v8 0#32)))
    ⊢ wp frame (wpE (defs₀ (F := F)) 𝒱₀ (c : Thread nD τ) none) Set.univ
      (k0_part9 i0M (Memref.isWhole_whole _) i1M (Memref.isWhole_whole _) i2M (Memref.isWhole_whole _) i3M (Memref.isWhole_whole _) ouM (Memref.isWhole_whole _) xsM (Memref.isWhole_whole _) xrM (Memref.isWhole_whole _) asM (Memref.isWhole_whole _) arM (Memref.isWhole_whole _) csM (Memref.isWhole_whole _) cdM (Memref.isWhole_whole _) cfM (Memref.isWhole_whole _) w1M (Memref.isWhole_whole _) w2M (Memref.isWhole_whole _) cc0_scratch9 cc0_scratch10 c v2 (w5 c) v6 v7 v8) Kt := by
  rw [k0_part9_eq_skeleton]; unfold k0_part9_skel
  simp only [Prog.lift, Prog.bind_op, Prog.bind_ret, Prog.pure_eq_ret]
  iintro ⟨#HK, #Hlev, Ht4, #Hr4, Ht5, #Hr5, HO, Hcs1, Hcd1, Hcf, Hp3, Hc3, Hk⟩
  iapply (send_step B K (c := c) (i := 4) (src := csM.slice R1 (fun _ => rfl)) (dst := cdM.slice R1 (fun _ => rfl)) (q := fullShare) (fs := cs B c)
      (dev7_eq c) rfl rfl cr4 fd (Entails.refl _) (Entails.of_eq (pointsTo_congr (land_s R1 c fd))) (n := 4) (n' := 5) rfl rfl) $$ [Ht4 HO Hcs1 Hcd1]
  · isplitr; · iexact HK
    isplitl [Ht4]; · iexact Ht4
    isplitr; · iexact Hr4
    isplitl [HO]; · iexact HO
    isplitl [Hcs1]; · iexact Hcs1
    iexact Hcd1
  iintro ⟨Hc4, HO⟩
  iapply (wait_both B K 3 5 (by decide) rfl rfl cr_s0 cr3) $$ [Hp3 Hc3 HO]
  · isplitr; · iexact HK
    isplitr; · iexact Hlev
    isplitl [Hp3]; · iexact Hp3
    isplitl [Hc3]; · iexact Hc3
    iexact HO
  rw [sendPay_3, recvPay_3]
  iintro ⟨Hv3, HO, Hcs, Hcd⟩
  ihave Hcd := (pointsTo_share (PosShare.mem_left_op_right fullShare)).1 $$ Hcd
  icases Hcd with ⟨Hcdl, Hcdr⟩
  iapply (send_step B K (c := c) (i := 5) (src := cdM.slice R0 (fun _ => rfl)) (dst := cfM.slice R0 (fun _ => rfl)) (q := fullShare.right) (fs := crd B c)
      (dev8_eq c) rfl rfl cr5 ff (Entails.refl _) (Entails.of_eq (pointsTo_congr (land_f R0 c ff))) (n := 5) (n' := 6) rfl rfl) $$ [Ht5 HO Hcdr Hcf]
  · isplitr; · iexact HK
    isplitl [Ht5]; · iexact Ht5
    isplitr; · iexact Hr5
    isplitl [HO]; · iexact HO
    isplitl [Hcdr]; · iexact Hcdr
    iexact Hcf
  iintro ⟨Hc5, HO⟩
  rw [wp_ret]; imodintro
  iapply Hk
  isplitl [Hc4]; · iexact Hc4
  isplitl [Hc5]; · iexact Hc5
  isplitl [HO]; · iexact HO
  isplitl [Hv3]; · iexact Hv3
  isplitl [Hcs]; · iexact Hcs
  iexact Hcdl

/-- The first chunk that came back is added to the output; the second arrives. -/
theorem part10_run (v2 v6 v7 v274 : BitVec 32)
    (Kt : PUnit → sProp 𝕄) :
    iprop(records B K ∗ levAts L lv ∗ pend c 4 ∗ cred (tallyAt (sendCell c 4) () (amt 4)) ∗ ow c (Ow c 6) ∗ all ouM c fullShare (o0 B c) ∗ part cdM R0 c fullShare.left (crd B c)
      ∗ ((closed c 4 ∗ ow c (Ow c 6) ∗ part csM R1 c fullShare (cs B c) ∗ part cdM R1 c fullShare (crd B c) ∗ all ouM c fullShare (o1 B c) ∗ part cdM R0 c fullShare.left (crd B c))
        -∗ Kt ⟨⟩))
    ⊢ wp frame (wpE (defs₀ (F := F)) 𝒱₀ (c : Thread nD τ) none) Set.univ
      (k0_part10 i0M (Memref.isWhole_whole _) i1M (Memref.isWhole_whole _) i2M (Memref.isWhole_whole _) i3M (Memref.isWhole_whole _) ouM (Memref.isWhole_whole _) xsM (Memref.isWhole_whole _) xrM (Memref.isWhole_whole _) asM (Memref.isWhole_whole _) arM (Memref.isWhole_whole _) csM (Memref.isWhole_whole _) cdM (Memref.isWhole_whole _) cfM (Memref.isWhole_whole _) w1M (Memref.isWhole_whole _) w2M (Memref.isWhole_whole _) cc0_scratch9 cc0_scratch10 c v2 (w5 c) v6 v7 v274) Kt := by
  rw [k0_part10_eq_skeleton]; unfold k0_part10_skel
  simp only [Prog.lift, Prog.bind_op, Prog.bind_ret, Prog.pure_eq_ret]
  iintro ⟨#HK, #Hlev, Hp4, Hc4, HO, Hou, Hcd0, Hk⟩
  iapply load_all $$ Hou; iintro Hou
  iapply load_part $$ Hcd0; iintro Hcd0
  iapply load_all $$ Hou; iintro Hou
  iapply store_all $$ Hou; iintro Hou
  iapply (wait_both B K 4 6 (by decide) rfl rfl cr_s1 cr4) $$ [Hp4 Hc4 HO]
  · isplitr; · iexact HK
    isplitr; · iexact Hlev
    isplitl [Hp4]; · iexact Hp4
    isplitl [Hc4]; · iexact Hc4
    iexact HO
  rw [sendPay_4, recvPay_4]
  iintro ⟨Hv4, HO, Hcs1, Hcd1⟩
  rw [wp_ret]; imodintro
  iapply Hk
  isplitl [Hv4]; · iexact Hv4
  isplitl [HO]; · iexact HO
  isplitl [Hcs1]; · iexact Hcs1
  isplitl [Hcd1]; · iexact Hcd1
  isplitl [Hou]; · iexact Hou
  iexact Hcd0

/-- The second chunk that came back is forwarded and added to the output; the first chunk forwarded by the peer arrives. -/
theorem part11_run (v7 v8 v10 : BitVec 32) (ff : Buf (Elt F) (cfM.view.loc (xp c : Thread nD τ)))
    (Kt : FVec F S128x512 .f32 → sProp 𝕄) :
    iprop(records B K ∗ levAts L lv ∗ ticket c 6 ∗ reached ER (recvCell (tgt c 6) 6) 0 ∗ ow c (Ow c 6) ∗ part cdM R1 c fullShare (crd B c) ∗ part cfM R1 (xp c) fullShare ff ∗ pend c 5 ∗ cred (tallyAt (sendCell c 5) () (amt 5))
      ∗ all ouM c fullShare (o1 B c)
      ∗ ((cred (tallyAt (sendCell c 6) () (amt 6)) ∗ ow c (Ow c 7) ∗ closed c 5 ∗ part cdM R0 c fullShare.right (crd B c) ∗ part cdM R1 c fullShare.left (crd B c) ∗ part cfM R0 c fullShare (crf B c)
        ∗ all ouM c fullShare (o2 B c))
        -∗ Kt (k0_pay22 (ouM.view.readAt (Elt F) (O2 c).toLoadRect (o2 B c)) (cfM.view.readAt (Elt F) R0.toLoadRect (crf B c)))))
    ⊢ wp frame (wpE (defs₀ (F := F)) 𝒱₀ (c : Thread nD τ) none) Set.univ
      (k0_part11 i0M (Memref.isWhole_whole _) i1M (Memref.isWhole_whole _) i2M (Memref.isWhole_whole _) i3M (Memref.isWhole_whole _) ouM (Memref.isWhole_whole _) xsM (Memref.isWhole_whole _) xrM (Memref.isWhole_whole _) asM (Memref.isWhole_whole _) arM (Memref.isWhole_whole _) csM (Memref.isWhole_whole _) cdM (Memref.isWhole_whole _) cfM (Memref.isWhole_whole _) w1M (Memref.isWhole_whole _) w2M (Memref.isWhole_whole _) cc0_scratch9 cc0_scratch10 c (w5 c) v7 v8 v10) Kt := by
  rw [k0_part11_eq_skeleton]; unfold k0_part11_skel
  simp only [Prog.lift, Prog.bind_op, Prog.bind_ret, Prog.pure_eq_ret]
  iintro ⟨#HK, #Hlev, Ht6, #Hr6, HO, Hcd, Hcf, Hp5, Hc5, Hou, Hk⟩
  ihave Hcd := (pointsTo_share (PosShare.mem_left_op_right fullShare)).1 $$ Hcd
  icases Hcd with ⟨Hcdl, Hcdr⟩
  iapply (send_step B K (c := c) (i := 6) (src := cdM.slice R1 (fun _ => rfl)) (dst := cfM.slice R1 (fun _ => rfl)) (q := fullShare.right) (fs := crd B c)
      (dev9_eq c) rfl rfl cr6 ff (Entails.refl _) (Entails.of_eq (pointsTo_congr (land_f R1 c ff))) (n := 6) (n' := 7) rfl rfl) $$ [Ht6 HO Hcdr Hcf]
  · isplitr; · iexact HK
    isplitl [Ht6]; · iexact Ht6
    isplitr; · iexact Hr6
    isplitl [HO]; · iexact HO
    isplitl [Hcdr]; · iexact Hcdr
    iexact Hcf
  iintro ⟨Hc6, HO⟩
  iapply load_all $$ Hou; iintro Hou
  iapply load_part $$ Hcdl; iintro Hcdl
  iapply load_all $$ Hou; iintro Hou
  iapply store_all $$ Hou; iintro Hou
  rw [o2_eq]
  iapply (wait_both B K 5 7 (by decide) rfl rfl cr_d0 cr5) $$ [Hp5 Hc5 HO]
  · isplitr; · iexact HK
    isplitr; · iexact Hlev
    isplitl [Hp5]; · iexact Hp5
    isplitl [Hc5]; · iexact Hc5
    iexact HO
  rw [sendPay_5, recvPay_5]
  iintro ⟨Hv5, HO, Hcd0, Hcf0⟩
  iapply load_all $$ Hou; iintro Hou
  iapply load_part $$ Hcf0; iintro Hcf0
  iapply load_all $$ Hou; iintro Hou
  rw [wp_ret]; imodintro
  iapply Hk
  isplitl [Hc6]; · iexact Hc6
  isplitl [HO]; · iexact HO
  isplitl [Hv5]; · iexact Hv5
  isplitl [Hcd0]; · iexact Hcd0
  isplitl [Hcdl]; · iexact Hcdl
  isplitl [Hcf0]; · iexact Hcf0
  iexact Hou

end Cert.Moe
-- ==== Proof.Body3.lean ====
/-
The kernel's whole run on device `c`, from its parts.
-/
module

public import proofs.«01_k».proof.Proof.Body2

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (B : Blocks F) (K : GSem nD τ sig → ℕ) (c : Dev nD)

/-! ## Cutting the buffers and putting them together -/

section Chunks

variable {e : EltTy} (M : Memref sig .tc .vmem S256x512 e) {q : PosShare TreeShare} {f g : Buf (Elt F) (M.view.loc (c : Thread nD τ))}

theorem chunk_union : (M.view.slice R0).set ∪ (M.view.slice R1).set = M.view.set := by
  rw [View.set_slice, View.set_slice]
  show R0.set.map M.view.emb ∪ R1.set.map M.view.emb = Finset.univ.map M.view.emb
  rw [← Finset.map_union, R_union]

theorem chunk_disjoint : Disjoint (M.view.slice R0).set (M.view.slice R1).set := by
  rw [View.set_slice, View.set_slice]
  exact (Finset.disjoint_map M.view.emb).mpr R_disjoint

/-- A buffer of 256 rows is its two chunks. -/
theorem cut : anyAll M c ⊢ (iprop(anyPart M R0 c ∗ anyPart M R1 c) : sProp 𝕄) := by
  unfold anyAll anyPart
  iintro ⟨%f, H⟩
  ihave H := (Entails.of_eq (show (all M c fullShare f : sProp 𝕄) = (M.view.loc (c : Thread nD τ) ↦[(M.view.slice R0).set ∪ (M.view.slice R1).set]{fullShare} f) by
    rw [chunk_union])) $$ H
  ihave H := (pointsTo_union (chunk_disjoint M)).1 $$ H
  icases H with ⟨H0, H1⟩
  isplitl [H0]
  · iexists f; iexact H0
  iexists f; iexact H1

theorem glue : iprop(part M R0 c fullShare f ∗ part M R1 c fullShare g) ⊢ (anyAll M c : sProp 𝕄) := by
  refine (pointsTo_join (chunk_disjoint M)).trans ?_
  rw [chunk_union]
  unfold anyAll
  iintro H
  iexists _; iexact H

end Chunks

theorem anyAll_eq {s : Shape} {e : EltTy} (M : Memref sig .tc .vmem s e) :
    (anyAll M c : sProp 𝕄) = iprop(∃ f, all M c fullShare f) := rfl
theorem anyPart_eq {s : Shape} {e : EltTy} (M : Memref sig .tc .vmem s e) (R : Rect s) :
    (anyPart M R c : sProp 𝕄) = iprop(∃ f, part M R c fullShare f) := rfl

theorem X1_sub : (xsM.view.slice (X1 c)).set ⊆ xsM.view.set \ (xsM.view.slice (X0 c)).set := by
  intro i hi
  rw [Finset.mem_sdiff]
  refine ⟨View.set_slice_subset _ _ hi, fun h0 => ?_⟩
  rw [show (xsM.view.slice (X1 c)).set = (X1 c).set from View.set_slice_whole _ _] at hi
  rw [show (xsM.view.slice (X0 c)).set = (X0 c).set from View.set_slice_whole _ _] at h0
  exact Finset.disjoint_left.mp (X_disjoint c) h0 hi

/-- What is neither of the two chunks of the tokens sent. -/
abbrev xrest (q : PosShare TreeShare) : sProp 𝕄 :=
  xsM.view.loc (c : Thread nD τ) ↦[(xsM.view.set \ (xsM.view.slice (X0 c)).set) \ (xsM.view.slice (X1 c)).set]{q} xs B c

/-- The tokens to send, cut for two copies and a reader. -/
theorem cut_xs : all xsM c fullShare (xs B c)
    ⊣⊢ (iprop(all xsM c fullShare.left (xs B c) ∗ part xsM (X0 c) c fullShare.right (xs B c) ∗ part xsM (X1 c) c fullShare.right (xs B c)
      ∗ xrest B c fullShare.right) : sProp 𝕄) := by
  constructor
  · iintro H
    ihave H := (pointsTo_share (PosShare.mem_left_op_right fullShare)).1 $$ H
    icases H with ⟨Hl, H⟩
    ihave H := (pointsTo_split_subset (View.set_slice_subset xsM.view (X0 c))).1 $$ H
    icases H with ⟨H0, H⟩
    ihave H := (pointsTo_split_subset (X1_sub c)).1 $$ H
    icases H with ⟨H1, H⟩
    isplitl [Hl]; · iexact Hl
    isplitl [H0]; · iexact H0
    isplitl [H1]; · iexact H1
    iexact H
  · iintro ⟨Hl, H0, H1, H⟩
    iapply (pointsTo_share (PosShare.mem_left_op_right fullShare)).2
    isplitl [Hl]; · iexact Hl
    iapply (pointsTo_split_subset (View.set_slice_subset xsM.view (X0 c))).2
    isplitl [H0]; · iexact H0
    iapply (pointsTo_split_subset (X1_sub c)).2
    isplitl [H1]; · iexact H1
    iexact H

theorem glue_as : iprop(part asM (SA c) c fullShare (asnd B c) ∗ rest asM (SA c) c fullShare (asnd B c)) ⊢ (anyAll asM c : sProp 𝕄) := by
  unfold anyAll
  iintro H
  iexists asnd B c
  iapply (pointsTo_split_subset (View.set_slice_subset asM.view (SA c))).2
  iexact H

/-! ## What a device starts and ends with -/

/-- For the handshake. -/
def meet (c : Dev nD) : sProp 𝕄 :=
  iprop(atPos ER (barCell c) 0 ∅ 0 ∗ cred (tallyAt (barCell c) () 2)
    ∗ dutyTok ER (barCell (yp c)) 0 true ∗ dutyTok ER (barCell (xp c)) 0 false ∗ reached ER (barCell (yp c)) 0 ∗ reached ER (barCell (xp c)) 0)
/-- The right to make each copy. -/
def tickets (c : Dev nD) : sProp 𝕄 :=
  iprop(ticket c 0 ∗ ticket c 1 ∗ ticket c 2 ∗ ticket c 3 ∗ ticket c 4 ∗ ticket c 5 ∗ ticket c 6)
/-- The waits to come, and once they are over. -/
def pends (c : Dev nD) : sProp 𝕄 := iprop(pend c 0 ∗ pend c 1 ∗ pend c 2 ∗ pend c 3 ∗ pend c 4 ∗ pend c 5 ∗ pend c 6)
def closeds (c : Dev nD) : sProp 𝕄 :=
  iprop(closed c 0 ∗ closed c 1 ∗ closed c 2 ∗ closed c 3 ∗ closed c 4 ∗ closed c 5 ∗ closed c 6)
/-- The receive cells of the device are at their first round. -/
def ready (c : Dev nD) : sProp 𝕄 :=
  iprop(reached ER (recvCell c 0) 0 ∗ reached ER (recvCell c 1) 0 ∗ reached ER (recvCell c 2) 0 ∗ reached ER (recvCell c 3) 0
    ∗ reached ER (recvCell c 4) 0 ∗ reached ER (recvCell c 5) 0 ∗ reached ER (recvCell c 6) 0)
/-- The scratch buffers. -/
def scratch (c : Dev nD) : sProp 𝕄 :=
  iprop(anyAll xsM c ∗ anyAll xrM c ∗ anyAll asM c ∗ anyAll arM c ∗ anyAll csM c ∗ anyAll cdM c ∗ anyAll cfM c ∗ anyAll w1M c ∗ anyAll w2M c)
/-- The staged inputs. -/
def inputs (c : Dev nD) : sProp 𝕄 :=
  iprop(all i0M c fullShare (B.x c) ∗ all i1M c fullShare (B.a c) ∗ all i2M c fullShare (B.w1 c) ∗ all i3M c fullShare (B.w2 c))

theorem give_Y : iprop(anyAll arM c ∗ anyPart xrM R0 c ∗ anyPart xrM R1 c ∗ anyPart cdM R0 c ∗ anyPart cdM R1 c
      ∗ reached ER (recvCell c 0) 0 ∗ reached ER (recvCell c 1) 0 ∗ reached ER (recvCell c 2) 0 ∗ reached ER (recvCell c 3) 0 ∗ reached ER (recvCell c 4) 0)
    ⊢ (barY (yp c) : sProp 𝕄) := by
  unfold barY roomY readyY
  rw [yp_yp]
  iintro ⟨H1, H2, H3, H4, H5, H⟩
  isplitr [H]
  · isplitl [H1]; · iexact H1
    isplitl [H2]; · iexact H2
    isplitl [H3]; · iexact H3
    isplitl [H4]; · iexact H4
    iexact H5
  iexact H

theorem give_X : iprop(anyPart cfM R0 c ∗ anyPart cfM R1 c ∗ reached ER (recvCell c 5) 0 ∗ reached ER (recvCell c 6) 0)
    ⊢ (barX (xp c) : sProp 𝕄) := by
  unfold barX
  rw [xp_xp]

theorem o3_eq : (ouM.access (O2 c)).write (Elt F) (o2 B c)
    (k0_pay22 (ouM.view.readAt (Elt F) (O2 c).toLoadRect (o2 B c)) (cfM.view.readAt (Elt F) R0.toLoadRect (crf B c))) Finset.univ = o3 B c := rfl
theorem o4_eq : (ouM.access (O3 c)).write (Elt F) (o3 B c)
    (k0_pay1 (ouM.view.readAt (Elt F) (O3 c).toLoadRect (o3 B c)) (cfM.view.readAt (Elt F) R1.toLoadRect (crf B c))) Finset.univ = o4 B c := rfl

set_option maxHeartbeats 1600000 in
/-- The kernel run on device `c`: it ends with its output holding the four chunks of sums added to the own experts', its inputs as they were, and its
    cells closed. -/
theorem body_run (f4 : Buf (Elt F) (ouM.view.loc (c : Thread nD τ))) (Kt : PUnit → sProp 𝕄) :
    iprop(records B K ∗ levAts L lv ∗ meet c ∗ tickets c ∗ pends c ∗ ready c ∗ ow c (O₀ c) ∗ inputs B c ∗ all ouM c fullShare f4 ∗ scratch c
      ∗ ((semVal (barCell c) 0 ∗ closeds c ∗ ow c 0 ∗ inputs B c ∗ all ouM c fullShare (o4 B c) ∗ scratch c) -∗ Kt ⟨⟩))
    ⊢ wp frame (wpE (defs₀ (F := F)) 𝒱₀ (c : Thread nD τ) none) Set.univ (cc0_body i0M (Memref.isWhole_whole _) i1M (Memref.isWhole_whole _) i2M (Memref.isWhole_whole _) i3M (Memref.isWhole_whole _) ouM (Memref.isWhole_whole _) xsM (Memref.isWhole_whole _) xrM (Memref.isWhole_whole _) asM (Memref.isWhole_whole _) arM (Memref.isWhole_whole _) csM (Memref.isWhole_whole _) cdM (Memref.isWhole_whole _) cfM (Memref.isWhole_whole _) w1M (Memref.isWhole_whole _) w2M (Memref.isWhole_whole _) cc0_scratch9 cc0_scratch10) Kt := by
  rw [cc0_body_eq_skeleton]; unfold cc0_body_skel
  simp only [Prog.lift, Prog.bind_op, Prog.bind_ret, Prog.pure_eq_ret, wp_bind]
  unfold tickets pends ready inputs scratch closeds
  rw [anyAll_eq c xsM, anyAll_eq c asM, anyAll_eq c w1M, anyAll_eq c w2M]
  iintro ⟨#HK, #Hlev, Hmeet, ⟨Ht0, Ht1, Ht2, Ht3, Ht4, Ht5, Ht6⟩, ⟨Hp0, Hp1, Hp2, Hp3, Hp4, Hp5, Hp6⟩, ⟨#He0, #He1, #He2, #He3, #He4, #He5, #He6⟩, HO,
    ⟨Hi0, Hi1, Hi2, Hi3⟩, Hou, ⟨⟨%f5, Hxs⟩, Hxr, ⟨%f7, Has⟩, Har, Hcs, Hcd, Hcf, ⟨%g7, Hw1⟩, ⟨%g8, Hw2⟩⟩, Hk⟩
  ihave Hxr := (cut c xrM) $$ Hxr
  ihave Hcd := (cut c cdM) $$ Hcd
  ihave Hcf := (cut c cfM) $$ Hcf
  icases Hxr with ⟨Hxr0, Hxr1⟩
  icases Hcd with ⟨Hcd0, Hcd1⟩
  icases Hcf with ⟨Hcf0, Hcf1⟩
  iapply (part1_run B K c f5 f7 _)
  isplitr; · iexact HK
  isplitr; · iexact Hlev
  isplitl [Hmeet]; · unfold meet; iexact Hmeet
  isplitl [HO]; · iexact HO
  isplitl [Har Hxr0 Hxr1 Hcd0 Hcd1]
  · iapply (give_Y c)
    isplitl [Har]; · iexact Har
    isplitl [Hxr0]; · iexact Hxr0
    isplitl [Hxr1]; · iexact Hxr1
    isplitl [Hcd0]; · iexact Hcd0
    isplitl [Hcd1]; · iexact Hcd1
    isplitr; · iexact He0
    isplitr; · iexact He1
    isplitr; · iexact He2
    isplitr; · iexact He3
    iexact He4
  isplitl [Hcf0 Hcf1]
  · iapply (give_X c)
    isplitl [Hcf0]; · iexact Hcf0
    isplitl [Hcf1]; · iexact Hcf1
    isplitr; · iexact He5
    iexact He6
  isplitl [Hi0]; · iexact Hi0
  isplitl [Hi1]; · iexact Hi1
  isplitl [Hxs]; · iexact Hxs
  isplitl [Has]; · iexact Has
  unfold barY roomY readyY barX
  iintro ⟨Hvb, HO, ⟨⟨Har, Hxr0, Hxr1, Hcd0, Hcd1⟩, #Hy0, #Hy1, #Hy2, #Hy3, #Hy4⟩, ⟨Hcf0, Hcf1, #Hx5, #Hx6⟩, Hi0, Hi1, Hxs, Has⟩
  ihave Hxs := (cut_xs B c).1 $$ Hxs
  icases Hxs with ⟨Hxs, Hx0, Hx1, Hxrest⟩
  dsimp only
  iapply (part2_run B K c _ _ _ _ f7 _)
  isplitr; · iexact HK
  isplitl [Ht0]; · iexact Ht0
  isplitl [Ht1]; · iexact Ht1
  isplitr; · iexact Hy0
  isplitr; · iexact Hy1
  isplitl [HO]; · iexact HO
  isplitl [Has]; · iexact Has
  isplitl [Hx0]; · iexact Hx0
  isplitl [Har]; · iexact Har
  isplitl [Hxr0]; · iexact Hxr0
  iintro ⟨Hc0, Hc1, HO, Hasr⟩
  try dsimp only
  try simp only [wp_bind]
  iapply (part3_run B K c g7 g8 _)
  isplitr; · iexact HK
  isplitl [Ht2]; · iexact Ht2
  isplitr; · iexact Hy2
  isplitl [HO]; · iexact HO
  isplitl [Hx1]; · iexact Hx1
  isplitl [Hxr1]; · iexact Hxr1
  isplitl [Hi1]; · iexact Hi1
  isplitl [Hi2]; · iexact Hi2
  isplitl [Hi3]; · iexact Hi3
  isplitl [Hxs]; · iexact Hxs
  isplitl [Hw1]; · iexact Hw1
  isplitl [Hw2]; · iexact Hw2
  iintro ⟨Hc2, HO, Hi1, Hi2, Hi3, Hxs, Hw1, Hw2⟩
  try dsimp only
  try simp only [wp_bind]
  iapply (part4_run B K c _ _ f4 _)
  isplitr; · iexact HK
  isplitr; · iexact Hlev
  isplitl [Hp0]; · iexact Hp0
  isplitl [Hc0]; · iexact Hc0
  isplitl [HO]; · iexact HO
  isplitl [Hw1]; · iexact Hw1
  isplitl [Hw2]; · iexact Hw2
  isplitl [Hou]; · iexact Hou
  iintro ⟨Hv0, HO, Has, Har, Hw1, Hw2, Hou⟩
  try dsimp only
  try simp only [wp_bind]
  iapply (part5_run B K c _ _ _)
  isplitr; · iexact HK
  isplitr; · iexact Hlev
  isplitl [HO]; · iexact HO
  isplitl [Hp1]; · iexact Hp1
  isplitl [Hc1]; · iexact Hc1
  isplitl [Har]; · iexact Har
  isplitl [Hw1]; · iexact Hw1
  isplitl [Hw2]; · iexact Hw2
  iintro ⟨HO, Hv1, Hx0, Hxr0, Har, Hw1, Hw2⟩
  try dsimp only
  try simp only [wp_bind]
  ihave Hcs := (cut c csM) $$ Hcs
  icases Hcs with ⟨Hcs0, Hcs1⟩
  ihave Hcs0 := (Entails.of_eq (anyPart_eq c csM R0)) $$ Hcs0
  ihave Hcs1 := (Entails.of_eq (anyPart_eq c csM R1)) $$ Hcs1
  ihave Hcd0 := (Entails.of_eq (anyPart_eq (yp c) cdM R0)) $$ Hcd0
  ihave Hcd1 := (Entails.of_eq (anyPart_eq (yp c) cdM R1)) $$ Hcd1
  ihave Hcf0 := (Entails.of_eq (anyPart_eq (xp c) cfM R0)) $$ Hcf0
  ihave Hcf1 := (Entails.of_eq (anyPart_eq (xp c) cfM R1)) $$ Hcf1
  icases Hcs0 with ⟨%fs0, Hcs0⟩
  icases Hcs1 with ⟨%fs1, Hcs1⟩
  icases Hcd0 with ⟨%fd0, Hcd0⟩
  icases Hcd1 with ⟨%fd1, Hcd1⟩
  icases Hcf0 with ⟨%ff0, Hcf0⟩
  icases Hcf1 with ⟨%ff1, Hcf1⟩
  iapply (part6_run B c _ _ fs0 _)
  isplitl [Hw1]; · iexact Hw1
  isplitl [Hw2]; · iexact Hw2
  isplitl [Hcs0]; · iexact Hcs0
  iintro ⟨Hw1, Hw2, Hcs0⟩
  try dsimp only
  try simp only [wp_bind]
  iapply (part7_run B K c _ _ fd0 _)
  isplitr; · iexact HK
  isplitr; · iexact Hlev
  isplitl [Ht3]; · iexact Ht3
  isplitr; · iexact Hy3
  isplitl [HO]; · iexact HO
  isplitl [Hcs0]; · iexact Hcs0
  isplitl [Hcd0]; · iexact Hcd0
  isplitl [Hp2]; · iexact Hp2
  isplitl [Hc2]; · iexact Hc2
  isplitl [Har]; · iexact Har
  isplitl [Hw1]; · iexact Hw1
  isplitl [Hw2]; · iexact Hw2
  iintro ⟨Hc3, HO, Hv2, Hx1, Hxr1, Har, Hw1, Hw2⟩
  try dsimp only
  try simp only [wp_bind]
  iapply (part8_run B c _ _ fs1 _)
  isplitl [Hw1]; · iexact Hw1
  isplitl [Hw2]; · iexact Hw2
  isplitl [Hcs1]; · iexact Hcs1
  iintro ⟨Hw1, Hw2, Hcs1⟩
  try dsimp only
  try simp only [wp_bind]
  iapply (part9_run B K c _ _ _ _ fd1 ff0 _)
  isplitr; · iexact HK
  isplitr; · iexact Hlev
  isplitl [Ht4]; · iexact Ht4
  isplitr; · iexact Hy4
  isplitl [Ht5]; · iexact Ht5
  isplitr; · iexact Hx5
  isplitl [HO]; · iexact HO
  isplitl [Hcs1]; · iexact Hcs1
  isplitl [Hcd1]; · iexact Hcd1
  isplitl [Hcf0]; · iexact Hcf0
  isplitl [Hp3]; · iexact Hp3
  isplitl [Hc3]; · iexact Hc3
  iintro ⟨Hc4, Hc5, HO, Hv3, Hcs0, Hcd0⟩
  try dsimp only
  try simp only [wp_bind]
  iapply (part10_run B K c _ _ _ _ _)
  isplitr; · iexact HK
  isplitr; · iexact Hlev
  isplitl [Hp4]; · iexact Hp4
  isplitl [Hc4]; · iexact Hc4
  isplitl [HO]; · iexact HO
  isplitl [Hou]; · iexact Hou
  isplitl [Hcd0]; · iexact Hcd0
  iintro ⟨Hv4, HO, Hcs1, Hcd1, Hou, Hcd0⟩
  try dsimp only
  try simp only [wp_bind]
  iapply (part11_run B K c _ _ _ ff1 _)
  isplitr; · iexact HK
  isplitr; · iexact Hlev
  isplitl [Ht6]; · iexact Ht6
  isplitr; · iexact Hx6
  isplitl [HO]; · iexact HO
  isplitl [Hcd1]; · iexact Hcd1
  isplitl [Hcf1]; · iexact Hcf1
  isplitl [Hp5]; · iexact Hp5
  isplitl [Hc5]; · iexact Hc5
  isplitl [Hou]; · iexact Hou
  iintro ⟨Hc6, HO, Hv5, Hcd0r, Hcd1, Hcf0, Hou⟩
  try dsimp only
  try simp only [wp_bind]
  iapply store_all $$ Hou; iintro Hou
  rw [o3_eq]
  iapply (wait_both B K 6 7 (by decide) rfl rfl cr_d1 cr6) $$ [Hp6 Hc6 HO]
  · isplitr; · iexact HK
    isplitr; · iexact Hlev
    isplitl [Hp6]; · iexact Hp6
    isplitl [Hc6]; · iexact Hc6
    iexact HO
  rw [sendPay_6, recvPay_6, Ow_end]
  iintro ⟨Hv6, HO, Hcd1r, Hcf1⟩
  iapply load_all $$ Hou; iintro Hou
  iapply load_part $$ Hcf1; iintro Hcf1
  iapply load_all $$ Hou; iintro Hou
  iapply store_all $$ Hou; iintro Hou
  rw [o4_eq, wp_ret]; imodintro
  iapply Hk
  isplitl [Hvb]; · iexact Hvb
  isplitl [Hv0 Hv1 Hv2 Hv3 Hv4 Hv5 Hv6]
  · isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    iexact Hv6
  isplitl [HO]; · iexact HO
  isplitl [Hi0 Hi1 Hi2 Hi3]
  · isplitl [Hi0]; · iexact Hi0
    isplitl [Hi1]; · iexact Hi1
    isplitl [Hi2]; · iexact Hi2
    iexact Hi3
  isplitl [Hou]; · iexact Hou
  isplitl [Hxs Hx0 Hx1 Hxrest]
  · iexists _
    iapply (cut_xs B c).2
    isplitl [Hxs]; · iexact Hxs
    isplitl [Hx0]; · iexact Hx0
    isplitl [Hx1]; · iexact Hx1
    iexact Hxrest
  isplitl [Hxr0 Hxr1]
  · iapply (glue c xrM)
    isplitl [Hxr0]; · iexact Hxr0
    iexact Hxr1
  isplitl [Has Hasr]
  · rw [← anyAll_eq c asM]
    iapply (glue_as B c)
    isplitl [Has]; · iexact Has
    iexact Hasr
  isplitl [Har]; · unfold anyAll; iexists _; iexact Har
  isplitl [Hcs0 Hcs1]
  · iapply (glue c csM)
    isplitl [Hcs0]; · iexact Hcs0
    iexact Hcs1
  isplitl [Hcd0 Hcd0r Hcd1 Hcd1r]
  · iapply (glue c cdM)
    isplitl [Hcd0 Hcd0r]
    · iapply (pointsTo_share (PosShare.mem_left_op_right fullShare)).2
      isplitl [Hcd0]; · iexact Hcd0
      iexact Hcd0r
    iapply (pointsTo_share (PosShare.mem_left_op_right fullShare)).2
    isplitl [Hcd1]; · iexact Hcd1
    iexact Hcd1r
  isplitl [Hcf0 Hcf1]
  · iapply (glue c cfM)
    isplitl [Hcf0]; · iexact Hcf0
    iexact Hcf1
  isplitl [Hw1]; · iexists _; iexact Hw1
  iexists _; iexact Hw2

end Cert.Moe
-- ==== Proof.Ghost.lean ====
/-
The launch of the protocol: its cells and tokens, what each device carries from the launch into the kernel, the opening of the
kernel's own cells, and the credit each device waits with.
-/
module

public import proofs.«01_k».proof.Proof.Body3

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (B : Blocks F) (K : GSem nD τ sig → ℕ) (c : Dev nD)

/-! ## Seven of a kind -/

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- A family of persistent records given beside each member of a family. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## From the launch to the kernel -/

/-- The kernel's own counters: those of the send cells, those of the receive cells. -/
def osem (k : Fin 2 × Fin 7) : SemLoc sig := .dma (if k.1 = 0 then sendS k.2 else recvS k.2)

/-- The rights to open a device's send and receive cells. -/
def rights (c : Dev nD) : sProp 𝕄 :=
  iprop((bigSep Finset.univ fun i : Fin 7 => openTok ER (sendCell c i)) ∗ bigSep Finset.univ fun i : Fin 7 => openTok ER (recvCell c i))
/-- The tokens of the duties a device pays. -/
def pays (c : Dev nD) : sProp 𝕄 :=
  iprop((dutyTok ER (barCell (yp c)) 0 true ∗ dutyTok ER (barCell (xp c)) 0 false)
    ∗ (bigSep Finset.univ fun i : Fin 7 => dutyTok ER (sendCell c i) 0 true)
    ∗ bigSep Finset.univ fun i : Fin 7 => dutyTok ER (recvCell (tgt c i) i) 0 true)
/-- The credit a device waits with. -/
def credits (c : Dev nD) : sProp 𝕄 :=
  iprop(cred (tallyAt (barCell c) () 2) ∗ bigSep Finset.univ fun i : Fin 7 => cred (tallyAt (recvCell c i) () (amt i)))
/-- The protocol's state of a device before the kernel's own cells are open. -/
def ghost (c : Dev nD) : sProp 𝕄 :=
  iprop(records B K ∗ atPos ER (barCell c) 0 ∅ 0 ∗ rights c ∗ (reached ER (barCell (yp c)) 0 ∗ reached ER (barCell (xp c)) 0) ∗ pays c)
def Tk (c : Dev nD) : sProp 𝕄 := iprop((∃ K, ghost B K c) ∗ credits c)
/-- And once they are. -/
def Xk (c : Dev nD) : sProp 𝕄 := iprop((∃ K, records B K) ∗ levAts L lv ∗ meet c ∗ tickets c ∗ pends c ∗ ready c)

theorem ownSems_eq : (Pipeline.ownSems0 osem c : sProp 𝕄)
    = iprop((bigSep Finset.univ fun i : Fin 7 => semVal (sendCell c i) 0) ∗ bigSep Finset.univ fun i : Fin 7 => semVal (recvCell c i) 0) := by
  unfold Pipeline.ownSems0
  rw [bigSep_univ_prod]
  exact BI.bigSep_fin_two (fun a : Fin 2 => (bigSep Finset.univ fun i : Fin 7 => semVal ((c : Thread nD τ), osem (a, i)) 0 : sProp 𝕄))

theorem open_all (g : Fin 7 → GSem nD τ sig) (hg : ∀ i, records B K ⊢ cellInv ER (rd B) (K (g i)) (g i)) :
    iprop(records B K ∗ (bigSep Finset.univ fun i => openTok ER (g i)) ∗ bigSep Finset.univ fun i => semVal (g i) 0)
      ⊢ (|={Set.univ}=> iprop((bigSep Finset.univ fun i => atPos ER (g i) 0 ∅ 0) ∗ bigSep Finset.univ fun i => reached ER (g i) 0) : sProp 𝕄) := by
  rw [← bigSep_sep', ← bigSep_sep']
  refine (bigSep_beside (Ψ := fun i => iprop(|={Set.univ}=> (atPos ER (g i) 0 ∅ 0 ∗ reached ER (g i) 0))) fun i _ => ?_).trans (bigSep_fupd _ _)
  iintro ⟨#HK, Ho, Hv⟩
  iapply (Rounds.cell_open ER (rd B) (g := g i) (Set.mem_univ (K (g i))))
  isplitr; · iapply (hg i); iexact HK
  isplitl [Ho] <;> iassumption

theorem hopen : iprop(Tk B c ∗ Pipeline.ownSems0 osem c ∗ levAts L lv) ⊢ (|={Set.univ}=> Xk B c : sProp 𝕄) := by
  rw [ownSems_eq]
  unfold Tk Xk ghost rights credits pays meet
  iintro ⟨⟨⟨%K, ⟨#HK, Hat, ⟨HoS, HoR⟩, #Hb, ⟨Hty, Htx⟩, HtS, HtR⟩⟩, HcB, HcR⟩, ⟨HvS, HvR⟩, #Hlev⟩
  icases Hb with ⟨#Hby, #Hbx⟩
  imod (open_all B K (sendCell c) (fun i => inv_send B c i K)) $$ [HoS HvS] with ⟨HaS, #HrS⟩
  · isplitr; · iexact HK
    isplitl [HoS] <;> iassumption
  imod (open_all B K (recvCell c) (fun i => inv_recv B c i K)) $$ [HoR HvR] with ⟨HaR, #HrR⟩
  · isplitr; · iexact HK
    isplitl [HoR] <;> iassumption
  imodintro
  isplitr; · iexists K; iexact HK
  isplitr; · iexact Hlev
  isplitl [Hat HcB Hty Htx]
  · isplitl [Hat]; · iexact Hat
    isplitl [HcB]; · iexact HcB
    isplitl [Hty]; · iexact Hty
    isplitl [Htx]; · iexact Htx
    isplitr; · iexact Hby
    iexact Hbx
  isplitl [HtS HtR]
  · unfold tickets
    rw [← bigSep_fin7 (fun i => ticket c i)]
    unfold ticket
    rw [bigSep_sep', bigSep_sep']
    isplitl [HtS]; · iexact HtS
    isplitl [HtR]; · iexact HtR
    iexact HrS
  isplitl [HaS HaR HcR]
  · unfold pends
    rw [← bigSep_fin7 (fun i => pend c i)]
    unfold pend
    rw [bigSep_sep', bigSep_sep']
    isplitl [HaS]; · iexact HaS
    isplitl [HaR] <;> iassumption
  unfold ready
  rw [← bigSep_fin7 (fun i => reached ER (recvCell c i) 0)]
  iexact HrR

/-! ## The cells and tokens at launch -/

theorem osem_inj : Function.Injective osem := by decide
theorem osem_ne_bar : ∀ k : Fin 2 × Fin 7, osem k ≠ .reg barS := by decide
theorem csem_cases : ∀ k : Fin 15, csem k = .reg barS ∨ ∃ j : Fin 2 × Fin 7, csem k = osem j := by decide

def barEmb : Dev nD ↪ GSem nD τ sig := ⟨fun c => barCell c, fun _ _ h => congrArg (fun g : GSem nD τ sig => g.1.1) h⟩
def ownEmb : Dev nD × (Fin 2 × Fin 7) ↪ GSem nD τ sig :=
  ⟨fun ck => ((ck.1 : Thread nD τ), osem ck.2), fun _ _ h =>
    Prod.ext (congrArg (fun g : GSem nD τ sig => g.1.1) h) (osem_inj (congrArg Prod.snd h))⟩

/-- The barrier cells, open from the launch on; the send and receive cells, opened by the kernel. -/
abbrev barCells : Finset (GSem nD τ sig) := Finset.univ.map barEmb
abbrev ownCells : Finset (GSem nD τ sig) := Finset.univ.map ownEmb

/-- Both tokens of every barrier cell, and the one token of every other cell. -/
def barToks : Finset (GSem nD τ sig × ℕ × Bool) :=
  Finset.univ.map ⟨fun cd : Dev nD × Bool => (barCell cd.1, 0, cd.2), fun _ _ h =>
    Prod.ext (congrArg (fun t : GSem nD τ sig × ℕ × Bool => t.1.1.1) h) (congrArg (fun t : GSem nD τ sig × ℕ × Bool => t.2.2) h)⟩
def ownToks : Finset (GSem nD τ sig × ℕ × Bool) :=
  Finset.univ.map ⟨fun ck : Dev nD × (Fin 2 × Fin 7) => (ownEmb ck, 0, true), fun _ _ h =>
    ownEmb.injective (congrArg (fun t : GSem nD τ sig × ℕ × Bool => t.1) h)⟩

theorem cells_disjoint : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)
theorem toks_disjoint : Disjoint barToks ownToks := by
  rw [Finset.disjoint_left]
  rintro t h₁ h₂
  obtain ⟨cd, -, rfl⟩ := Finset.mem_map.mp h₁
  obtain ⟨ck, -, h⟩ := Finset.mem_map.mp h₂
  exact osem_ne_bar ck.2 (congrArg (fun t : GSem nD τ sig × ℕ × Bool => t.1.2) h)

theorem kcell_mem (ck : Dev nD × Fin 15) : kcell ck ∈ (barCells ∪ ownCells : Finset (GSem nD τ sig)) := by
  rcases csem_cases ck.2 with h | ⟨j, h⟩
  · exact Finset.mem_union_left _ (Finset.mem_map.mpr ⟨ck.1, Finset.mem_univ _, Prod.ext rfl h.symm⟩)
  · exact Finset.mem_union_right _ (Finset.mem_map.mpr ⟨(ck.1, j), Finset.mem_univ _, Prod.ext rfl h.symm⟩)

theorem records_intro : (bigSep (barCells ∪ ownCells) fun g => cellInv ER (rd B) (K g) g) ⊢ records B K := by
  unfold records
  exact (BI.bigSep_of_persistent Finset.univ _).trans (bigSep_mono fun ck _ => bigSep_elim (kcell_mem ck))

theorem reached_at : (bigSep barCells fun g => (reached ER g 0 : sProp 𝕄)) ⊢ reached ER (barCell c) 0 :=
  bigSep_elim (Finset.mem_map_of_mem barEmb (Finset.mem_univ c))

/-! ## The tokens, to the devices that pay with them -/

def ypE : Dev nD ≃ Dev nD := ⟨yp, yp, yp_yp, yp_yp⟩
def xpE : Dev nD ≃ Dev nD := ⟨xp, xp, xp_xp, xp_xp⟩
def tgtE : Dev nD × Fin 7 ≃ Dev nD × Fin 7 :=
  ⟨fun ck => (tgt ck.1 ck.2, ck.2), fun ck => (tgt ck.1 ck.2, ck.2), fun ck => Prod.ext (tgt_tgt ck.1 ck.2) rfl, fun ck => Prod.ext (tgt_tgt ck.1 ck.2) rfl⟩

theorem own_cells (Φ : GSem nD τ sig → sProp 𝕄) : bigSep ownCells Φ
    = bigSep Finset.univ fun c : Dev nD => iprop((bigSep Finset.univ fun i : Fin 7 => Φ (sendCell c i)) ∗ bigSep Finset.univ fun i : Fin 7 => Φ (recvCell c i)) := by
  rw [bigSep_map, bigSep_univ_prod]
  refine bigSep_congr fun c _ => ?_
  rw [bigSep_univ_prod]
  exact BI.bigSep_fin_two (fun a : Fin 2 => (bigSep Finset.univ fun i : Fin 7 => Φ ((c : Thread nD τ), osem (a, i)) : sProp 𝕄))

theorem toks_pays : bigSep (barToks ∪ ownToks) (fun x => (dutyTok ER x.1 x.2.1 x.2.2 : sProp 𝕄)) ⊢ bigSep Finset.univ fun c : Dev nD => pays c := by
  have hb : bigSep barToks (fun x => (dutyTok ER x.1 x.2.1 x.2.2 : sProp 𝕄))
      = iprop((bigSep Finset.univ fun c : Dev nD => dutyTok ER (barCell (yp c)) 0 true) ∗ bigSep Finset.univ fun c : Dev nD => dutyTok ER (barCell (xp c)) 0 false) := by
    unfold barToks
    rw [bigSep_map, bigSep_univ_prod]
    refine Eq.trans ?_ (congrArg₂ (fun X Y : sProp 𝕄 => iprop(X ∗ Y)) (bigSep_univ_equiv ypE (fun c : Dev nD => (dutyTok ER (barCell c) 0 true : sProp 𝕄)))
      (bigSep_univ_equiv xpE (fun c : Dev nD => (dutyTok ER (barCell c) 0 false : sProp 𝕄))))
    rw [← bigSep_sep']
    exact bigSep_congr fun c _ => bigSep_eq_bigSepL_of_eq [true, false] (by decide) (by decide) _
  have ho : bigSep ownToks (fun x => (dutyTok ER x.1 x.2.1 x.2.2 : sProp 𝕄))
      = iprop((bigSep Finset.univ fun c : Dev nD => bigSep Finset.univ fun i : Fin 7 => dutyTok ER (sendCell c i) 0 true)
        ∗ bigSep Finset.univ fun c : Dev nD => bigSep Finset.univ fun i : Fin 7 => dutyTok ER (recvCell (tgt c i) i) 0 true) := by
    unfold ownToks
    rw [bigSep_map]
    refine ((bigSep_map (s := Finset.univ) ownEmb (Φ := fun g : GSem nD τ sig => (dutyTok ER g 0 true : sProp 𝕄))).symm.trans (own_cells _)).trans ?_
    rw [bigSep_sep']
    congr 1
    rw [← bigSep_univ_prod (fun ck : Dev nD × Fin 7 => (dutyTok ER (recvCell ck.1 ck.2) 0 true : sProp 𝕄)),
      ← bigSep_univ_prod (fun ck : Dev nD × Fin 7 => (dutyTok ER (recvCell (tgt ck.1 ck.2) ck.2) 0 true : sProp 𝕄))]
    exact bigSep_univ_equiv tgtE _
  refine Entails.of_eq ((BI.bigSep_union toks_disjoint).trans ?_)
  rw [hb, ho]
  unfold pays
  rw [bigSep_sep', bigSep_sep', bigSep_sep']
  rfl

/-! ## The credit -/

theorem owe_at (d : Dev nD) (j : Fin 7) (c : Dev nD) (i : Fin 7) :
    owe d j (recvCell c i) () = if j = i ∧ d = tgt c i then amt i else 0 := by
  rw [tallyAt_apply]
  by_cases h : j = i ∧ d = tgt c i
  · obtain ⟨rfl, rfl⟩ := h
    rw [tgt_tgt, if_pos ⟨rfl, rfl⟩, if_pos ⟨rfl, rfl⟩]
  · rw [if_neg h, if_neg]
    rintro ⟨e, -⟩
    have hc : c = tgt d j := congrArg (fun g : GSem nD τ sig => g.1.1) e
    have hs : (SemLoc.dma (recvS i) : SemLoc sig) = .dma (recvS j) := congrArg Prod.snd e
    have hi : i = j := by
      clear h hc e; revert i j; decide
    subst hi
    exact h ⟨rfl, by rw [hc, tgt_tgt]⟩

theorem owed_recv (d c : Dev nD) (i : Fin 7) : O₀ d (recvCell c i) () = if d = tgt c i then amt i else 0 := by
  have hb : ∀ d' : Dev nD, (tallyAt (barCell d') () 1 : CellTallies nD τ sig Unit) (recvCell c i) () = 0 := fun d' => by
    rw [tallyAt_apply, if_neg]
    rintro ⟨e, -⟩
    have := congrArg Prod.snd e
    exact absurd this (by intro h; cases h)
  have hw : Ow d 0 (recvCell c i) () = (((((((0 + owe d 6 (recvCell c i) ()) + owe d 5 (recvCell c i) ()) + owe d 4 (recvCell c i) ()) + owe d 3 (recvCell c i) ())
      + owe d 2 (recvCell c i) ()) + owe d 1 (recvCell c i) ()) + owe d 0 (recvCell c i) ()) := rfl
  have ho : O₀ d (recvCell c i) () = Ow d 0 (recvCell c i) () + (tallyAt (barCell (xp d)) () 1 : CellTallies nD τ sig Unit) (recvCell c i) ()
      + (tallyAt (barCell (yp d)) () 1 : CellTallies nD τ sig Unit) (recvCell c i) () := rfl
  rw [ho, hb, hb, hw]
  simp only [owe_at]
  by_cases h : d = tgt c i
  · simp only [h, and_true, if_true]
    fin_cases i <;> simp
  · simp only [h, and_false, if_false]

theorem owed_bar (d c : Dev nD) : O₀ d (barCell c) () = (if d = xp c then 1 else 0) + if d = yp c then 1 else 0 := by
  have hr : ∀ j : Fin 7, owe d j (barCell c) () = 0 := fun j => by
    rw [tallyAt_apply, if_neg]
    rintro ⟨e, -⟩
    have := congrArg Prod.snd e
    exact absurd this (by intro h; cases h)
  have hw : Ow d 0 (barCell c) () = (((((((0 + owe d 6 (barCell c) ()) + owe d 5 (barCell c) ()) + owe d 4 (barCell c) ()) + owe d 3 (barCell c) ())
      + owe d 2 (barCell c) ()) + owe d 1 (barCell c) ()) + owe d 0 (barCell c) ()) := rfl
  have ho : O₀ d (barCell c) () = Ow d 0 (barCell c) () + (tallyAt (barCell (xp d)) () 1 : CellTallies nD τ sig Unit) (barCell c) ()
      + (tallyAt (barCell (yp d)) () 1 : CellTallies nD τ sig Unit) (barCell c) () := rfl
  have hp : ∀ p : Dev nD → Dev nD, (∀ e, p (p e) = e) → (tallyAt (barCell (p d)) () 1 : CellTallies nD τ sig Unit) (barCell c) () = if d = p c then 1 else 0 := by
    intro p pp
    rw [tallyAt_apply]
    by_cases h : d = p c
    · subst h; rw [pp, if_pos ⟨rfl, rfl⟩, if_pos rfl]
    · rw [if_neg h, if_neg]
      rintro ⟨e, -⟩
      exact h (by rw [← pp d]; exact (congrArg (fun g : GSem nD τ sig => p g.1.1) e).symm)
  rw [ho, hp xp xp_xp, hp yp yp_yp, hw]
  simp only [hr]
  omega

theorem launch_bar : tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (xp c) fun _ => 1, Finset.sum_ite_eq' Finset.univ (yp c) fun _ => 1, if_pos (Finset.mem_univ _), if_pos (Finset.mem_univ _)]

theorem launch_recv (i : Fin 7) :
    tallyOn (recvCell c i) (launchCredit (Pipeline.owing O₀) 0 (recvCell c i)) = (tallyAt (recvCell c i) () (amt i) : CellTallies nD τ sig Unit) := by
  unfold tallyAt; refine congrArg _ (Finsupp.ext fun u => ?_); cases u
  rw [Pipeline.launchCredit_owing, Finsupp.single_eq_same, Finset.sum_congr rfl fun d _ => owed_recv d c i,
    Finset.sum_ite_eq' Finset.univ (tgt c i) fun _ => amt i, if_pos (Finset.mem_univ _)]

def recvEmb : Fin 7 ↪ SemLoc sig := ⟨fun i => .dma (recvS i), fun i j h => by revert i j; decide⟩

theorem launch_credits : (Pipeline.launchCred O₀ c : sProp 𝕄) ⊢ credits c := by
  unfold Pipeline.launchCred credits
  rw [bigSep_univ_at _ (SemLoc.reg barS), launch_bar]
  refine sep_mono_right ?_
  refine (bigSep_subset (t := Finset.univ.map recvEmb) (fun s hs => ?_)).trans ?_
  · obtain ⟨i, -, rfl⟩ := Finset.mem_map.mp hs
    exact Finset.mem_erase.mpr ⟨(by intro h; cases h), Finset.mem_univ _⟩
  · rw [bigSep_map]
    exact bigSep_mono fun i _ => Entails.of_eq (congrArg cred (launch_recv c i))

end Cert.Moe
-- ==== Proof.Launch.lean ====
/-
The whole program on the four devices: the reshape of the assignment, then the kernel. From any memory with all counters at
zero every run ends with the arguments unchanged, the result at `o4` of the blocks the devices hold, and all counters at zero.
-/
module

public import proofs.«01_k».proof.Proof.Ghost

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

attribute [local irreducible] o4

/-! ## The blocks in memory -/

/-- Memory at launch, and after the reshape. -/
def V₀ (c : Dev nD) : Valuation τ sig (Elt F) := fun b => m (c, b)
def V₁ (c : Dev nD) : Valuation τ sig (Elt F) := StableHlo.after hostOps0 (V₀ m c)

/-- The blocks the kernel is called on. -/
def blk : Blocks F where
  x c := m ((c : Thread nD τ).loc main_arg0)
  a c := V₁ m c (Proc.devRef .tc main_v1)
  w1 c := m ((c : Thread nD τ).loc main_arg2)
  w2 c := m ((c : Thread nD τ).loc main_arg3)

/-- Memory after the kernel. -/
def V₂ (c : Dev nD) : Valuation τ sig (Elt F) := Function.update (V₁ m c) (Proc.devRef .tc main_v2) (o4 (blk m) c)

theorem V₂_v2 : V₂ m c (Proc.devRef .tc main_v2) = o4 (blk m) c := Function.update_self ..
theorem V₂_of_ne {b : Ref sig .tc} (h : b ≠ main_v2) : V₂ m c (Proc.devRef .tc b) = V₁ m c (Proc.devRef .tc b) :=
  Function.update_of_ne (StableHlo.devRef_ne_of_ne h) ..

/-! ## The pipeline's data -/

def Yk (c : Dev nD) : sProp 𝕄 := semVal (barCell c) 0

def dats (_ : Fin 1) (c : Dev nD) : Dat τ (Elt F) Unit ℕ UU ℕ cfg0 c where
  A w := V₁ m c (Proc.devRef .tc (Pipeline.arrRef spec0 w))
  after w _ := match w with
    | ⟨0, _⟩ => (blk m).x c
    | ⟨1, _⟩ => (blk m).a c
    | ⟨2, _⟩ => (blk m).w1 c
    | ⟨3, _⟩ => (blk m).w2 c
    | ⟨4, _⟩ => o4 (blk m) c
  Φ t := match t with
    | ⟨0, _⟩ => iprop(Xk (blk m) c ∗ scratch c ∗ ∃ r, prngReg c r)
    | ⟨_ + 1, _⟩ => iprop(Yk c ∗ closeds c ∗ scratch c ∗ ∃ r, prngReg c r)
  q _ := fullShare
  owed t := match t with
    | ⟨0, _⟩ => O₀ c
    | ⟨_ + 1, _⟩ => 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dats m 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ ((Memref.whole b).view.loc (c : Thread nD τ) ↦[(Memref.whole b).view.set]{fullShare} f)) := by
  unfold owns; simp only [Memref.view_whole, View.read_whole]

theorem scopedRest_eq : (Pipeline.scopedRest (Ix := Unit) (Name := ℕ) (U := UU) (Lvl := ℕ) (Val := Elt F) spec0 c : sProp 𝕄) = scratch c := by
  rw [scopedRest0_eq]
  unfold scratch anyAll all
  simp only [Memref.view_whole, View.set_whole]

theorem closeds_eq : (closeds c : sProp 𝕄) = Pipeline.ownSems0 osem c := by
  rw [ownSems_eq, ← bigSep_sep']
  exact (bigSep_fin7 (fun i => closed c i)).symm

theorem V₁_arg0 : V₁ m c (Proc.devRef .tc main_arg0) = m ((c : Thread nD τ).loc main_arg0) := V_main_arg0 m c
theorem V₁_arg1 : V₁ m c (Proc.devRef .tc main_arg1) = m ((c : Thread nD τ).loc main_arg1) := V_main_arg1 m c
theorem V₁_arg2 : V₁ m c (Proc.devRef .tc main_arg2) = m ((c : Thread nD τ).loc main_arg2) := V_main_arg2 m c
theorem V₁_arg3 : V₁ m c (Proc.devRef .tc main_arg3) = m ((c : Thread nD τ).loc main_arg3) := V_main_arg3 m c

/-- Each window is its whole array: what it fetches is what the array holds. -/
theorem whole_0 (f : main_arg0.ty.Contents (Elt F)) (d) : win0_0.fill (grid0.coords t0_0) d ((win0_0.blk (0 : Fin 1)).view.read (Elt F) f) = f := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) f
theorem whole_1 (f : main_v1.ty.Contents (Elt F)) (d) : win0_1.fill (grid0.coords t0_0) d ((win0_1.blk (0 : Fin 1)).view.read (Elt F) f) = f := by
  have hz : (fun a => (win0_1.index (0 : Fin 1)) a * main_v1.ty.shape.size a) = fun _ => 0 := funext fun a => by fin_cases a <;> decide
  exact Memref.read_access_unit_zero (Elt F) main_v1 hz (fun a => by fin_cases a <;> decide) f
theorem whole_2 (f : main_arg2.ty.Contents (Elt F)) (d) : win0_2.fill (grid0.coords t0_0) d ((win0_2.blk (0 : Fin 1)).view.read (Elt F) f) = f := by
  have hz : (fun a => (win0_2.index (0 : Fin 1)) a * main_arg2.ty.shape.size a) = fun _ => 0 := funext fun a => by fin_cases a <;> decide
  exact Memref.read_access_unit_zero (Elt F) main_arg2 hz (fun a => by fin_cases a <;> decide) f
theorem whole_3 (f : main_arg3.ty.Contents (Elt F)) (d) : win0_3.fill (grid0.coords t0_0) d ((win0_3.blk (0 : Fin 1)).view.read (Elt F) f) = f := by
  have hz : (fun a => (win0_3.index (0 : Fin 1)) a * main_arg3.ty.shape.size a) = fun _ => 0 := funext fun a => by fin_cases a <;> decide
  exact Memref.read_access_unit_zero (Elt F) main_arg3 hz (fun a => by fin_cases a <;> decide) f

theorem before_0 (d) : (dats m 0 c).before (0 : Fin 5) t0_0 d = (blk m).x c := by
  unfold Dat.before
  rw [if_pos (fetch0_0 t0_0)]
  exact (whole_0 (V₁ m c (Proc.devRef .tc main_arg0)) d).trans (V₁_arg0 m c)
theorem before_1 (d) : (dats m 0 c).before (1 : Fin 5) t0_0 d = (blk m).a c := by
  unfold Dat.before
  rw [if_pos (fetch0_1 t0_0)]
  exact whole_1 (V₁ m c (Proc.devRef .tc main_v1)) d
theorem before_2 (d) : (dats m 0 c).before (2 : Fin 5) t0_0 d = (blk m).w1 c := by
  unfold Dat.before
  rw [if_pos (fetch0_2 t0_0)]
  exact (whole_2 (V₁ m c (Proc.devRef .tc main_arg2)) d).trans (V₁_arg2 m c)
theorem before_3 (d) : (dats m 0 c).before (3 : Fin 5) t0_0 d = (blk m).w2 c := by
  unfold Dat.before
  rw [if_pos (fetch0_3 t0_0)]
  exact (whole_3 (V₁ m c (Proc.devRef .tc main_arg3)) d).trans (V₁_arg3 m c)

theorem whole_4 (f : main_v2.ty.Contents (Elt F)) : (win0_4.blk (0 : Fin 1)).view.read (Elt F) f = f := by
  have hz : (fun a => (win0_4.index (0 : Fin 1)) a * main_v2.ty.shape.size a) = fun _ => 0 := funext fun a => by fin_cases a <;> decide
  exact Memref.read_access_unit_zero (Elt F) main_v2 hz (fun a => by fin_cases a <;> decide) f

theorem write_4 (f g : main_v2.ty.Contents (Elt F)) : (win0_4.blk (0 : Fin 1)).view.write (Elt F) f g Finset.univ = g :=
  (whole_4 _).symm.trans (View.read_write_univ _ _)

theorem final_out : (dats m 0 c).arrAt (4 : Fin 5) cfg0.N = o4 (blk m) c := by
  rw [show cfg0.N = (t0_0 : Fin cfg0.N).val + 1 from rfl, (dats m 0 c).arrAt_succ (4 : Fin 5) t0_0]
  rw [show (cfg0.win (4 : Fin 5)).flush t0_0 = true from flush0_4 t0_0, if_pos rfl]
  exact write_4 (V₁ m c (Proc.devRef .tc main_v2)) (o4 (blk m) c)

/-! ## The body -/

theorem owesAt_intro (t : Fin (cfg0.N + 1)) (O : CellTallies nD τ sig Unit) (h : (dats m 0 c).owed t = O) :
    (ow c O : sProp 𝕄) ⊢ (dats m 0 c).owesAt () t := by
  unfold ow Dat.owesAt Pipeline.owesWithin Dat.bound
  rw [h]
  iintro ⟨%W, HO⟩
  iexists W; isplitr; · ipureintro; exact fun _ _ => Or.inl trivial
  iexact HO
theorem owesAt_elim (t : Fin (cfg0.N + 1)) (O : CellTallies nD τ sig Unit) (h : (dats m 0 c).owed t = O) :
    (dats m 0 c).owesAt () t ⊢ (ow c O : sProp 𝕄) := by
  unfold ow Dat.owesAt Pipeline.owesWithin
  rw [h]
  iintro ⟨%W, -, HO⟩
  iexists W; iexact HO

set_option maxHeartbeats 1600000 in
/-- The kernel's run, as the pipeline calls it. -/
theorem body (c : Dev nD) : BodyObligation (dats m 0 c) (defs₀ (F := F)) 𝒱₀ () Set.univ := fun t => by
  obtain rfl := fin_N0 t
  rw [bigSep_W0, bigSep_W0]
  rw [show (dats m 0 c).Φ t0_0.castSucc = iprop(Xk (blk m) c ∗ scratch c ∗ ∃ r, prngReg c r) from rfl,
    show (dats m 0 c).Φ t0_0.succ = iprop(Yk c ∗ closeds c ∗ scratch c ∗ ∃ r, prngReg c r) from rfl]
  simp only [owns_whole_eq]
  unfold Xk Yk
  iintro ⟨⟨⟨⟨%K, #HK⟩, #Hlev, Hmeet, Htick, Hpend, Hready⟩, Hscr, Hreg⟩, HO, ⟨%d0, %f0, %e0, H0⟩, ⟨%d1, %f1, %e1, H1⟩, ⟨%d2, %f2, %e2, H2⟩, ⟨%d3, %f3, %e3, H3⟩, ⟨%d4, %f4, %e4, H4⟩⟩
  rw [before_0] at e0
  rw [before_1] at e1
  rw [before_2] at e2
  rw [before_3] at e3
  subst e0 e1 e2 e3
  ihave HO := (owesAt_elim m c _ (O₀ c) rfl) $$ HO
  iapply (body_run (blk m) K c f4)
  isplitr; · iexact HK
  isplitr; · iexact Hlev
  isplitl [Hmeet]; · iexact Hmeet
  isplitl [Htick]; · iexact Htick
  isplitl [Hpend]; · iexact Hpend
  isplitl [Hready]; · iexact Hready
  isplitl [HO]; · iexact HO
  isplitl [H0 H1 H2 H3]
  · unfold inputs
    isplitl [H0]; · iexact H0
    isplitl [H1]; · iexact H1
    isplitl [H2]; · iexact H2
    iexact H3
  isplitl [H4]; · iexact H4
  isplitl [Hscr]; · iexact Hscr
  unfold inputs
  iintro ⟨Hb, Hcl, HO, ⟨H0, H1, H2, H3⟩, H4, Hscr⟩
  isplitl [Hb Hcl Hscr Hreg]
  · isplitl [Hb]; · iexact Hb
    isplitl [Hcl]; · iexact Hcl
    isplitl [Hscr]; · iexact Hscr
    iexact Hreg
  isplitl [HO]; · iapply (owesAt_intro m c _ 0 rfl); iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  iexists _; isplitr; · (ipureintro; rfl)
  iexact H4

end Cert.Moe
-- ==== Proof.Run.lean ====
/-
The run of the whole program: the reshape on the host, the kernel's region, and the launch that deals the protocol's state to the
four devices.
-/
module

public import proofs.«01_k».proof.Proof.Launch

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

attribute [local irreducible] o4

/-! ## The region of the kernel -/

abbrev bufs : Finset (DevRef τ sig) := Pipeline.ucRefs τ sig
/-- The buffers the kernel is not called on: the assignment before its reshape. -/
abbrev Sr : Finset (DevRef τ sig) := bufs \ Pipeline.arrRefs spec0

theorem arr_sub : Pipeline.arrRefs (τ := τ) spec0 ⊆ bufs := Pipeline.arrRefs_sub_ucRefs spec0 (by decide)

theorem held_split (W : Valuation τ sig (Elt F)) : (StableHlo.held (c : Thread nD τ) bufs W : sProp 𝕄)
    = iprop(StableHlo.held (c : Thread nD τ) (Pipeline.arrRefs spec0) W ∗ StableHlo.held (c : Thread nD τ) Sr W) :=
  StableHlo.held_sub_split (c : Thread nD τ) arr_sub W

theorem v2_arr : Proc.devRef .tc main_v2 ∈ Pipeline.arrRefs (τ := τ) spec0 := by decide

theorem V₂_rest (b : DevRef τ sig) (hb : b ∈ Sr \ (∅ : Finset (DevRef τ sig))) : V₂ m c b = V₁ m c b := by
  rw [Finset.sdiff_empty] at hb
  exact Function.update_of_ne (fun h => (Finset.mem_sdiff.mp hb).2 (by rw [h]; exact v2_arr)) _ _

theorem share_eq (w : Fin 5) : (pdats m 0 c).share w = fullShare := by
  unfold Dat.share; split <;> rfl

theorem owed_pos {g : GSem nD τ sig} {u : Unit} (h : 0 < O₀ c g u) : u ∈ L g ∧ 0 < lv g u := by
  have ho : O₀ c g u = Ow c 0 g u + (tallyAt (barCell (xp c)) () 1 : CellTallies nD τ sig Unit) g u
      + (tallyAt (barCell (yp c)) () 1 : CellTallies nD τ sig Unit) g u := rfl
  by_cases h0 : 0 < Ow c 0 g u
  · obtain ⟨j, -, rfl⟩ := owed_mem c (left 0) h0
    refine ⟨by rw [L_tc]; exact Finset.mem_singleton_self _, ?_⟩
    show 0 < lvOf (.dma (recvS j))
    clear h ho h0; revert j; decide
  · have hbar : ∃ d : Dev nD, g = barCell d := by
      by_contra hn
      rw [ho, tallyAt_apply, tallyAt_apply, if_neg (fun h' => hn ⟨_, h'.1⟩), if_neg (fun h' => hn ⟨_, h'.1⟩)] at h
      exact h0 h
    obtain ⟨d, rfl⟩ := hbar
    exact ⟨by rw [L_tc]; exact Finset.mem_singleton_self _, Nat.one_pos⟩

theorem owed_cut (t : Fin (cfg0.N + 1)) (g : GSem nD τ sig) (u : Unit) (h : 0 < (dats m 0 c).owed t g u) : u ∈ L g ∧ 0 < lv g u := by
  obtain ⟨t, ht⟩ := t
  cases t with
  | zero => exact owed_pos c h
  | succ n => exact absurd h (Nat.lt_irrefl 0)

theorem staging_level : ∀ (w : Fin 5) (s : Fin (win0 w).nbuf), lvOf (.dma ((win0 w).sem s)) ≤ 0 := by decide

theorem hin : iprop(Pipeline.scopedRest spec0 c ∗ (∃ r, prngReg c r) ∗ StableHlo.held (c.tc : Thread nD τ) ∅ (V₁ m c) ∗ Xk (blk m) c)
    ⊢ (dats m 0 c).Φ 0 := by
  rw [show (dats m 0 c).Φ 0 = iprop(Xk (blk m) c ∗ scratch c ∗ ∃ r, prngReg c r) from rfl, scopedRest_eq]
  iintro ⟨Hs, Hp, -, HX⟩
  isplitl [HX]; · iexact HX
  isplitl [Hs] <;> iassumption

theorem hout : (dats m 0 c).Φ (Fin.last cfg0.N)
    ⊢ iprop(Pipeline.scopedRest spec0 c ∗ (∃ r, prngReg c r) ∗ StableHlo.held (c.tc : Thread nD τ) ∅ (V₂ m c) ∗ Pipeline.ownSems0 osem c ∗ Yk c) := by
  rw [show (dats m 0 c).Φ (Fin.last cfg0.N) = iprop(Yk c ∗ closeds c ∗ scratch c ∗ ∃ r, prngReg c r) from rfl, scopedRest_eq, closeds_eq,
    show (StableHlo.held (c.tc : Thread nD τ) ∅ (V₂ m c) : sProp 𝕄) = iprop(emp) from bigSep_empty ..]
  iintro ⟨HY, Ho, Hs, Hp⟩
  isplitl [Hs]; · iexact Hs
  isplitl [Hp]; · iexact Hp
  isplitr; · iempintro
  isplitl [Ho] <;> iassumption

theorem hW' (w : Fin 5) : (dats m 0 c).arrAt w cfg0.N = V₂ m c (Proc.devRef .tc (Pipeline.arrRef spec0 w)) := by
  fin_cases w
  · exact ((dats m 0 c).arrAt_in (0 : Fin 5) rfl _).trans (V₂_of_ne m c (b := main_arg0) (by decide)).symm
  · exact ((dats m 0 c).arrAt_in (1 : Fin 5) rfl _).trans (V₂_of_ne m c (b := main_v1) (by decide)).symm
  · exact ((dats m 0 c).arrAt_in (2 : Fin 5) rfl _).trans (V₂_of_ne m c (b := main_arg2) (by decide)).symm
  · exact ((dats m 0 c).arrAt_in (3 : Fin 5) rfl _).trans (V₂_of_ne m c (b := main_arg3) (by decide)).symm
  · exact (final_out m c).trans (V₂_v2 m c).symm

local notation "ℝ𝕊" => Pipeline.RegionSeg (pcfgs (F := F)) adm (pdats m) () defs₀ 𝒱₀ L lv

set_option backward.isDefEq.respectTransparency.types false in
def reg0 : ℝ𝕊 0 :=
  Pipeline.RegionSeg.ofTalk (pcfgs (F := F)) adm (pdats m) () defs₀ 𝒱₀ L lv 0 osem (by decide : Pipeline.OwnSemFacts spec0 osem)
    ∅ Sr (Finset.empty_subset _) launch0.toP rfl (fun c => (body m c).loose)
    (fun _ => 0) O₀ (fun c => (zero_add _).symm) (fun _ => rfl) (fun _ => rfl) (share_eq m)
    (V₁ m) (V₂ m) (V₂_rest m)
    (Tk (blk m)) Yk (Xk (blk m)) Yk (hopen (blk m)) (hin m) (hout m)
    (fun c => by iintro H; imodintro; iexact H)
    (fun _ => 0)
    ⟨fun c w s => by rw [L_tc]; exact Finset.mem_singleton_self _, fun _ w s => staging_level w s, fun c t g i h => owed_cut m c t g i h⟩
    (fun _ => iprop(emp))
    (fun c w => by fin_cases w <;> rfl) (hW' m)

/-! ## The host's segment -/

/-- What rides beside the buffers up to the kernel. -/
def R (c : Dev nD) : sProp 𝕄 := iprop((Tk (blk m) c ∗ ∃ r, prngReg c r) ∗ ∃ W, owes (c : Thread nD τ) (O₀ c) W)

def T₀ (c : Dev nD) : sProp 𝕄 := iprop(StableHlo.held (c : Thread nD τ) bufs (V₀ m c) ∗ R m c)
def Tₙ (c : Dev nD) : sProp 𝕄 := iprop(StableHlo.held (c : Thread nD τ) bufs (V₂ m c) ∗ semVal (barCell c) 0)

theorem ops_sub : ∀ op ∈ (hostOps0 : List (HloOp τ sig (Elt F))), op.bufs ⊆ bufs := by
  intro op hop
  obtain rfl := List.mem_singleton.mp hop
  show ({Proc.devRef .tc main_arg1, Proc.devRef .tc main_v1} : Finset (DevRef τ sig)) ⊆ bufs
  decide
theorem ops_fresh : ∀ op ∈ (hostOps0 : List (HloOp τ sig (Elt F))), op.fresh = ∅ := by
  intro op hop
  obtain rfl := List.mem_singleton.mp hop
  rfl

def seg0 : Pipeline.HostSeg (Name := ℕ) (U := UU) (pcfgs (F := F)) defs₀ 𝒱₀ L lv :=
  Pipeline.HostSeg.ofOps _ _ _ _ _ bufs hostOps0 ops_sub ops_fresh (V₀ m) (R m)

set_option backward.isDefEq.respectTransparency.types false in
theorem reg0_pre : (seg0 m).post c ⊢ (reg0 m).pre c := by
  show iprop(StableHlo.held (c : Thread nD τ) bufs (V₁ m c) ∗ R m c)
    ⊢ iprop(StableHlo.held (c : Thread nD τ) (Pipeline.arrRefs spec0) (V₁ m c) ∗ (∃ r, prngReg c r)
      ∗ (StableHlo.held (c : Thread nD τ) Sr (V₁ m c) ∗ emp) ∗ Tk (blk m) c ∗ ∃ Wd, owes (c : Thread nD τ) (0 + O₀ c) Wd)
  rw [held_split, zero_add]
  unfold R
  iintro ⟨⟨Ha, Hs⟩, ⟨HT, Hp⟩, HO⟩
  isplitl [Ha]; · iexact Ha
  isplitl [Hp]; · iexact Hp
  isplitl [Hs]
  · isplitl [Hs]; · iexact Hs
    iempintro
  isplitl [HT] <;> iassumption

set_option backward.isDefEq.respectTransparency.types false in
theorem reg0_post : (reg0 m).post c ⊢ iprop(Tₙ m c ∗ ∃ W, owes (c : Thread nD τ) (0 : CellTallies nD τ sig Unit) W) := by
  show iprop(StableHlo.held (c : Thread nD τ) (Pipeline.arrRefs spec0) (V₂ m c) ∗ (∃ r, prngReg c r)
      ∗ (StableHlo.held (c : Thread nD τ) Sr (V₂ m c) ∗ emp) ∗ Yk c ∗ ∃ Wd, owes (c : Thread nD τ) (0 : CellTallies nD τ sig Unit) Wd) ⊢ _
  unfold Tₙ Yk
  rw [held_split]
  iintro ⟨Ha, -, ⟨Hs, -⟩, Hb, HO⟩
  isplitr [HO]
  · isplitr [Hb]
    · isplitl [Ha] <;> iassumption
    · iexact Hb
  · iexact HO

def segs : List (Pipeline.Seg (pcfgs (F := F)) adm (pdats m) () defs₀ 𝒱₀ L lv) := [.host (seg0 m), .region (reg0 m)]

/-! ## The launch -/

theorem cells_inj : Function.Injective (Pipeline.cellOf (nD := nD) (τ := τ) (Pipeline.pin (pcfgs (F := F)) adm)) := cellOf_inj

/-- The launch element: the pipeline library's, and the protocol's. -/
def u₀ : UU :=
  (initOf (Pipeline.cells (Pipeline.pin (pcfgs (F := F)) adm) cells_inj) (Pipeline.launchToks (Pipeline.pin (pcfgs (F := F)) adm) cells_inj),
    launchOf barCells ownCells (barToks ∪ ownToks))

/-- A resource given to one device. -/
def only (d : Dev nD) (X : sProp 𝕄) (c : Dev nD) : sProp 𝕄 := if c = d then X else iprop(emp)
theorem bigSep_only (d : Dev nD) (X : sProp 𝕄) : bigSep Finset.univ (only d X) = X := by
  rw [bigSep_univ_at _ d, bigSep_congr (s := Finset.univ.erase d) (Ψ := fun _ => (BI.emp : sProp 𝕄))
      fun c hc => by unfold only; rw [if_neg (Finset.ne_of_mem_erase hc)]; rfl, BI.bigSep_emp_const]
  unfold only; rw [if_pos rfl]
  exact BI.equiv_iff.mp sep_emp

def G : Dev nD → sProp 𝕄 := only 0 (BI.own (ER (launchOf barCells ownCells (barToks ∪ ownToks))))

theorem unscopedSems0_eq : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What a device brings to the launch beside its barrier counter. -/
def bundle (c : Dev nD) : sProp 𝕄 :=
  iprop(StableHlo.held (c : Thread nD τ) bufs (V₀ m c) ∗ owes (c : Thread nD τ) (O₀ c) ∅ ∗ credits c ∗ ∃ r, prngReg c r)
/-- What the launch gives it. -/
def dealt (c : Dev nD) : sProp 𝕄 := iprop(atPos ER (barCell c) 0 ∅ 0 ∗ rights c ∗ pays c)

theorem T₀_intro (κ : GSem nD τ sig → ℕ) :
    iprop((records (blk m) κ ∗ bigSep barCells fun g => reached ER g 0) ∗ (dealt c ∗ bundle m c)) ⊢ T₀ m c := by
  unfold T₀ R Tk ghost dealt bundle
  iintro ⟨⟨#HK, #HR⟩, ⟨Hat, Hri, Hpay⟩, Hh, HO, Hcr, Hp⟩
  isplitl [Hh]; · iexact Hh
  isplitr [HO]
  · isplitr [Hp]
    · isplitr [Hcr]
      · iexists κ
        isplitr; · iexact HK
        isplitl [Hat]; · iexact Hat
        isplitl [Hri]; · iexact Hri
        isplitr
        · isplitr
          · iapply (reached_at (F := F) (yp c)); iexact HR
          · iapply (reached_at (F := F) (xp c)); iexact HR
        iexact Hpay
      · iexact Hcr
    · iexact Hp
  · iexists ∅; iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) bufs (V₀ m c) from Pipeline.unscopedBufs_held c (V₀ m c),
      unscopedSems0_eq]
    unfold bundle
    iintro ⟨Hh, Hus, HO, Hcr, Hp, HG⟩
    ihave Hc := (launch_credits (F := F) c) $$ Hcr
    isplitl [Hh Hc HO Hp]
    · isplitl [Hh]; · iexact Hh
      isplitl [HO]; · iexact HO
      isplitl [Hc]; · iexact Hc
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄)) ⊢ bigSep Finset.univ (fun c : Dev nD => rights c) :=
    Entails.of_eq (own_cells fun g => openTok ER g)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (G (F := F)) ⊢ BI.own (ER (launchOf barCells ownCells (barToks ∪ ownToks))) from
    Entails.of_eq (bigSep_only (F := F) 0 (BI.own (ER (launchOf barCells ownCells (barToks ∪ ownToks)))))) $$ HG
  imod (Rounds.fund_launch ER (rd (blk m)) cells_disjoint (fun g _ h => h) (barToks ∪ ownToks)) $$ [Hv Hu] with ⟨%κ, -, #Hinv, #Hr, Hat, Hopen, Htok⟩
  · isplitl [Hv]
    · iapply hv $$ Hv
    · iexact Hu
  imodintro
  iapply (bigSep_beside (R := iprop(records (blk m) κ ∗ bigSep barCells fun g => reached ER g 0)) (Φ := fun c => iprop(dealt c ∗ bundle m c)) fun c _ => T₀_intro m c κ)
  isplitr
  · isplitr; · iapply (records_intro (blk m) κ); iexact Hinv
    iexact Hr
  iapply (Entails.of_eq (bigSep_sep' _ _ _).symm)
  isplitr [HB]
  · unfold dealt
    iapply (Entails.of_eq (bigSep_sep' _ _ _).symm); isplitl [Hat]; · iapply hat $$ Hat
    iapply (Entails.of_eq (bigSep_sep' _ _ _).symm); isplitl [Hopen]; · iapply hopen $$ Hopen
    iapply (toks_pays (F := F)) $$ Htok
  · iexact HB

theorem bufs_eq (W : Valuation τ sig (Elt F)) : (StableHlo.held (c : Thread nD τ) bufs W : sProp 𝕄)
    = iprop((((c : Thread nD τ).loc main_arg0) ↦{fullShare} W (Proc.devRef .tc main_arg0)) ∗ (((c : Thread nD τ).loc main_arg1) ↦{fullShare} W (Proc.devRef .tc main_arg1))
      ∗ (((c : Thread nD τ).loc main_arg2) ↦{fullShare} W (Proc.devRef .tc main_arg2)) ∗ (((c : Thread nD τ).loc main_arg3) ↦{fullShare} W (Proc.devRef .tc main_arg3))
      ∗ (((c : Thread nD τ).loc main_v1) ↦{fullShare} W (Proc.devRef .tc main_v1)) ∗ (((c : Thread nD τ).loc main_v2) ↦{fullShare} W (Proc.devRef .tc main_v2))) := by
  unfold StableHlo.held
  rw [bigSep_eq_bigSepL_of_eq [Proc.devRef .tc main_arg0, Proc.devRef .tc main_arg1, Proc.devRef .tc main_arg2, Proc.devRef .tc main_arg3,
    Proc.devRef .tc main_v1, Proc.devRef .tc main_v2] (by decide) (by decide)]
  rfl

theorem unscoped_eq : ∀ sm : SemLoc sig, sm.isScoped .tc = false → sm = .reg barS := by decide

set_option backward.isDefEq.respectTransparency.types false in
/-- From any memory and all counters at zero, every run of the program ends with the arguments as they were, the result at `o4`
    of the blocks the devices hold, and all counters at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_v2) = o4 (blk m) c) ∧ r.2.sem = fun _ => 0) :=
  Pipeline.θ_run_regions_kit_sems (pcfgs (F := F)) adm (pdats m) () cells_inj EP defs₀ 𝒱₀ L lv m ρ main (segs m)
    (fun c Q => by rw [main_segs adm (pdats m) () 𝒱₀ L lv (seg0 m) (reg0 m) rfl c]; rfl)
    (by simp only [segs, Pipeline.Seg.pipes_host, Pipeline.Seg.pipes_region, Pipeline.Seg.pipes_nil]; decide)
    (O₀ := O₀) (hL := L_of_ne) (G := G (F := F)) (u₀ := u₀ (F := F))
    (hu₀ := by
      unfold u₀ G
      iintro Hu
      ihave H := (ownU_pair _ _) $$ Hu
      icases H with ⟨HP, HX⟩
      imodintro
      isplitl [HP]; · iexact HP
      rw [bigSep_only (F := F)]; iexact HX)
    (T₀ := T₀ m) (Tₙ := Tₙ m)
    (hch := ⟨fun _ => .rfl, reg0_pre m, reg0_post m⟩)
    (hinit := init m ρ)
    (QY := fun c s => (s.mem ((c : Thread nD τ).loc main_arg0) = V₂ m c (Proc.devRef .tc main_arg0)
        ∧ s.mem ((c : Thread nD τ).loc main_arg1) = V₂ m c (Proc.devRef .tc main_arg1)
        ∧ s.mem ((c : Thread nD τ).loc main_arg2) = V₂ m c (Proc.devRef .tc main_arg2)
        ∧ s.mem ((c : Thread nD τ).loc main_arg3) = V₂ m c (Proc.devRef .tc main_arg3)
        ∧ s.mem ((c : Thread nD τ).loc main_v2) = V₂ m c (Proc.devRef .tc main_v2))
      ∧ s.sem (barCell c) = 0)
    (hfin := fun c s' => by
      dsimp only [Tₙ]; rw [bufs_eq]
      iintro ⟨⟨⟨H0, H1, H2, H3, -, H5⟩, Hb0⟩, HSI⟩
      icombine HSI H0 gives %h0
      icombine HSI H1 gives %h1
      icombine HSI H2 gives %h2
      icombine HSI H3 gives %h3
      icombine HSI H5 gives %h5
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h5⟩, by simpa using hb⟩
      iexact HSI)
    (hQ := fun s h hs => ⟨fun c => by
        obtain ⟨⟨h0, h1, h2, h3, h5⟩, -⟩ := h c
        rw [V₂_of_ne m c (by decide)] at h0 h1 h2 h3
        rw [V₁_arg0] at h0
        rw [V₁_arg1] at h1
        rw [V₁_arg2] at h2
        rw [V₁_arg3] at h3
        rw [V₂_v2] at h5
        exact ⟨h0, h1, h2, h3, h5⟩,
      sem_eq_zero hs fun c sm hsm => by
        obtain rfl := unscoped_eq sm hsm
        exact (h c).2⟩)

end Cert.Moe
-- ==== Proof.Experts.lean ====
/-
What one device computes, over the extended reals: the sum of its two experts on one row of tokens.
-/
module

public import proofs.«01_k».proof.Proof.Contents
public import Idealize.ShloMosaic.Lib.Pointwise

@[expose] public section

set_option maxRecDepth 16384

noncomputable section

namespace Cert.Moe

open Cert.KernelIdeal Cert.KernelIdeal.Gen
open Idealize.ShloMosaic
open Idealize.ShloMosaic.TcCoe

/-! ## One row -/

/-- One expert on one row `x`, read at one output column: the row times the first weights `u`, cut off below zero, times the
    column `d` of the second weights. -/
def expert (x : Fin 512 → EReal) (u : Fin 512 → Fin 1024 → EReal) (d : Fin 1024 → EReal) : EReal :=
  ∑ f, max (∑ k, x k * u k f) 0 * d f

/-- `v` on a row whose assignment `a` is the expert `n`, zero on the others. -/
def chosen (a n : BitVec 32) (v : EReal) : EReal := Scalar.select (IntOp.cmpi .eq a n) v 0

/-- A choice by an equality of words. -/
theorem select_eq (a n : BitVec 32) (v z : EReal) : Scalar.select (IntOp.cmpi .eq a n) v z = if a = n then v else z := by
  by_cases h : a = n
  · rw [if_pos h, h, IntOp.cmpi_eq_self]; rfl
  · rw [if_neg h]
    show Scalar.select (BitVec.ofBool (a == n)) v z = z
    rw [beq_false_of_ne h]; rfl

variable (B : Blocks Ideal) (c : Dev nD)

/-- The sum of device `c`'s two experts on a row `x` of assignment `a`, at column `j`. -/
def pair (a : BitVec 32) (x : Fin 512 → EReal) (j : Fin 512) : EReal :=
  chosen a (Scalar.addi (Scalar.muli (w5 c) 2#32) 0#32) (expert x (fun k f => B.w1 c (ix3 0 k f)) (fun f => B.w2 c (ix3 0 f j)))
  + chosen a (Scalar.addi (Scalar.muli (w5 c) 2#32) 1#32) (expert x (fun k f => B.w1 c (ix3 1 k f)) (fun f => B.w2 c (ix3 1 f j)))

/-! ## The loads -/

/-- Two rank-2 indices with the same coordinates are equal. -/
theorem idx2_ext {a b : ℕ} {i j : (⟨2, ![a, b]⟩ : Shape).Idx} (h0 : (i 0).val = (j 0).val) (h1 : (i 1).val = (j 1).val) : i = j := by
  funext k; apply Fin.ext; fin_cases k
  · exact h0
  · exact h1

/-- Two rank-3 indices with the same coordinates are equal. -/
theorem idx3_ext {a b e : ℕ} {i j : (⟨3, ![a, b, e]⟩ : Shape).Idx} (h0 : (i 0).val = (j 0).val) (h1 : (i 1).val = (j 1).val)
    (h2 : (i 2).val = (j 2).val) : i = j := by
  funext k; apply Fin.ext; fin_cases k
  · exact h0
  · exact h1
  · exact h2

/-- The weights loaded are those of the expert the load names. -/
theorem l10_at (k : Fin 512) (f : Fin 1024) : l10 B c (ix3 0 k f) = B.w1 c (ix3 0 k f) := by
  unfold l10 w1b k0_pay5
  pointwise []
  show B.w1 c (E10.emb (ix3 0 k f)) = _
  exact congrArg (B.w1 c) (idx3_ext rfl (show 0 + 1 * k.val = k.val by omega) (show 0 + 1 * f.val = f.val by omega))

theorem l11_at (k : Fin 512) (f : Fin 1024) : l11 B c (ix3 0 k f) = B.w1 c (ix3 1 k f) := by
  unfold l11 w1b k0_pay5
  pointwise []
  show B.w1 c (E11.emb (ix3 0 k f)) = _
  exact congrArg (B.w1 c) (idx3_ext rfl (show 0 + 1 * k.val = k.val by omega) (show 0 + 1 * f.val = f.val by omega))

theorem l20_at (f : Fin 1024) (j : Fin 512) : l20 B c (ix3 0 f j) = B.w2 c (ix3 0 f j) := by
  unfold l20 w2b k0_pay6
  pointwise []
  show B.w2 c (E20.emb (ix3 0 f j)) = _
  exact congrArg (B.w2 c) (idx3_ext rfl (show 0 + 1 * f.val = f.val by omega) (show 0 + 1 * j.val = j.val by omega))

theorem l21_at (f : Fin 1024) (j : Fin 512) : l21 B c (ix3 0 f j) = B.w2 c (ix3 1 f j) := by
  unfold l21 w2b k0_pay6
  pointwise []
  show B.w2 c (E21.emb (ix3 0 f j)) = _
  exact congrArg (B.w2 c) (idx3_ext rfl (show 0 + 1 * f.val = f.val by omega) (show 0 + 1 * j.val = j.val by omega))

/-- Row `r` of the half that device `e` sends to its `y` peer, as a row of its tokens. -/
def sentRow (e : Dev nD) (r : Fin 256) : Fin 512 :=
  ⟨256 * (e.val / 2) + r.val, by have h := e.isLt; unfold nD at h; have := r.isLt; omega⟩

/-- What arrived from the `y` peer: its tokens and its assignment, at the rows it sends. -/
theorem xr_at (r : Fin 256) (k : Fin 512) : xr B c (ix2 r k) = B.x (yp c) (ix2 (sentRow (yp c) r) k) := by
  unfold xr xs k0_pay2
  pointwise []
  refine congrArg (B.x (yp c)) (idx2_ext ?_ (show 0 + 1 * k.val = k.val by omega))
  have := yp_half c
  show 256 * (c.val / 2) + 1 * r.val = 256 * ((yp c).val / 2) + r.val
  omega

theorem arcv_at (r : Fin 256) : arcv B c (ix2 r 0) = B.a (yp c) (ix2 (sentRow (yp c) r) 0) := by
  unfold arcv asnd k0_pay4 k0_pay3
  pointwise []
  refine congrArg (B.a (yp c)) (idx2_ext ?_ ?_)
  · have h : k0_off1 (yp c) 0 = _ := congrFun (k0_off1_eq (yp c)) 0
    show k0_off1 (yp c) 0 + 1 * r.val = 256 * ((yp c).val / 2) + r.val
    rw [h]
    show 256 * ((yp c).val / 2) + 1 * r.val = _
    omega
  · have h : k0_off1 (yp c) 1 = _ := congrFun (k0_off1_eq (yp c)) 1
    show k0_off1 (yp c) 1 + 1 * 0 = 0
    rw [h]; rfl

/-- Rows 0 to 127 and 128 to 255 of a buffer of 256 rows. -/
def lo (r : Fin 128) : Fin 256 := ⟨r.val, by omega⟩
def hi (r : Fin 128) : Fin 256 := ⟨128 + r.val, by omega⟩

theorem R0_at (r : Fin 128) (k : Fin 512) : R0.emb (ix2 r k) = ix2 (lo r) k :=
  idx2_ext (show 0 + 1 * r.val = r.val by omega) (show 0 + 1 * k.val = k.val by omega)
theorem R1_at (r : Fin 128) (k : Fin 512) : R1.emb (ix2 r k) = ix2 (hi r) k :=
  idx2_ext (show 128 + 1 * r.val = 128 + r.val by omega) (show 0 + 1 * k.val = k.val by omega)
theorem A0_at (r : Fin 128) : A0.emb (ix2 r 0) = ix2 (lo r) 0 := idx2_ext (show 0 + 1 * r.val = r.val by omega) rfl
theorem A1_at (r : Fin 128) : A1.emb (ix2 r 0) = ix2 (hi r) 0 := idx2_ext (show 128 + 1 * r.val = 128 + r.val by omega) rfl

theorem lx0_at (r : Fin 128) (k : Fin 512) : lx0 B c (ix2 r k) = xr B c (ix2 (lo r) k) := congrArg (xr B c) (R0_at r k)
theorem lx1_at (r : Fin 128) (k : Fin 512) : lx1 B c (ix2 r k) = xr B c (ix2 (hi r) k) := congrArg (xr B c) (R1_at r k)
theorem la0_at (r : Fin 128) : la0 B c (ix2 r 0) = arcv B c (ix2 (lo r) 0) := congrArg (arcv B c) (A0_at r)
theorem la1_at (r : Fin 128) : la1 B c (ix2 r 0) = arcv B c (ix2 (hi r) 0) := congrArg (arcv B c) (A1_at r)

/-! ## The sums -/

/-- The own experts on the own rows. -/
theorem o0_at (r j : Fin 512) : o0 B c (ix2 r j) = pair B c (B.a c (ix2 r 0)) (fun k => B.x c (ix2 r k)) j := by
  unfold o0 xs
  pointwise [k0_pay2, k0_pay11, k0_pay10, k0_pay9, k0_pay8, k0_pay7]
  simp only [l10_at, l11_at, l20_at, l21_at]
  rfl

/-- The own experts on the first chunk of rows received, -/
theorem cs0_at (r : Fin 128) (j : Fin 512) :
    cs0 B c (ix2 r j) = pair B c (arcv B c (ix2 (lo r) 0)) (fun k => xr B c (ix2 (lo r) k)) j := by
  unfold cs0
  pointwise [k0_pay15, k0_pay12, k0_pay13, k0_pay14]
  simp only [l10_at, l11_at, l20_at, l21_at, lx0_at, la0_at]
  rfl

/-- and on the second. -/
theorem cs1_at (r : Fin 128) (j : Fin 512) :
    cs1 B c (ix2 r j) = pair B c (arcv B c (ix2 (hi r) 0)) (fun k => xr B c (ix2 (hi r) k)) j := by
  unfold cs1
  pointwise [k0_pay19, k0_pay16, k0_pay17, k0_pay18]
  simp only [l10_at, l11_at, l20_at, l21_at, lx1_at, la1_at]
  rfl

/-- The sums to send back: the own experts on the rows received. -/
theorem cs_at (r : Fin 256) (j : Fin 512) :
    cs B c (ix2 r j) = pair B c (B.a (yp c) (ix2 (sentRow (yp c) r) 0)) (fun k => B.x (yp c) (ix2 (sentRow (yp c) r) k)) j := by
  have key : cs B c (ix2 r j) = pair B c (arcv B c (ix2 r 0)) (fun k => xr B c (ix2 r k)) j := by
    by_cases h : r.val < 128
    · have e : lo ⟨r.val, h⟩ = r := rfl
      rw [← e, ← cs0_at, ← R0_at]
      refine (cs_on0 (B := B) c (xr B c) _ (Finset.mem_map.mpr ⟨ix2 ⟨r.val, h⟩ j, Finset.mem_univ _, rfl⟩)).symm.trans ?_
      exact View.write_emb_of_mem (v := csM.access R0) _ _ (Finset.mem_univ _)
    · have e : hi ⟨r.val - 128, by omega⟩ = r := Fin.ext (show 128 + (r.val - 128) = r.val by omega)
      rw [← e, ← cs1_at, ← R1_at]
      exact View.write_emb_of_mem (v := csM.access R1) _ _ (Finset.mem_univ (ix2 _ j))
  rw [key, arcv_at]
  exact congrArg (fun x => pair B c _ x j) (funext fun k => xr_at B c r k)

/-- The sums that came back: the `y` peer's experts on the rows this device sent. -/
theorem crd_at (r : Fin 256) (j : Fin 512) :
    crd B c (ix2 r j) = pair B (yp c) (B.a c (ix2 (sentRow c r) 0)) (fun k => B.x c (ix2 (sentRow c r) k)) j := by
  unfold crd
  rw [cs_at, yp_yp]

end Cert.Moe
-- ==== Proof.Output.lean ====
/-
What the output buffer of a device holds at the end: on every row, the sum of its own experts and of its `y` peer's.
-/
module

public import proofs.«01_k».proof.Proof.Experts

@[expose] public section

set_option maxRecDepth 16384

noncomputable section

namespace Cert.Moe

open Cert.KernelIdeal Cert.KernelIdeal.Gen
open Idealize.ShloMosaic
open Idealize.ShloMosaic.TcCoe

variable (B : Blocks Ideal) (c : Dev nD)

/-- The row of a 256-row half that row `r` of the block is. -/
def inHalf (r : Fin 512) : Fin 256 := ⟨r.val % 256, by omega⟩

/-- Adding 128 rows of `v` (from row `b`) to the rows from `256 * h + b`: those rows gain `v`, the others keep what they held. -/
theorem add_rows (h b : ℕ) (off : Fin 2 → ℕ) (hoff : off = ![256 * h + b, 0]) (hb : b + 128 ≤ 256)
    (inb : ∀ a, off a + S128x512.size a ≤ S512x512.size a) (f : Vec Ideal S512x512 .f32) (v : Vec Ideal S256x512 .bf16)
    (w : Vec Ideal S128x512 .f32)
    (hw : ∀ (s : Fin 128) (k : Fin 512), w (ix2 s k)
      = (f ((Rect.unit (s := S512x512) off S128x512.size inb).emb (ix2 s k)) : EReal) + v (ix2 ⟨b + s.val, by omega⟩ k)) (r j : Fin 512) :
    (ouM.access (Rect.unit (s := S512x512) off S128x512.size inb)).write (Elt Ideal) f w Finset.univ (ix2 r j)
      = if 256 * h + b ≤ r.val ∧ r.val < 256 * h + b + 128 then (f (ix2 r j) : EReal) + v (ix2 (inHalf r) j) else f (ix2 r j) := by
  subst hoff
  by_cases hr : 256 * h + b ≤ r.val ∧ r.val < 256 * h + b + 128
  · rw [if_pos hr]
    have e : (Rect.unit (s := S512x512) ![256 * h + b, 0] S128x512.size inb).emb (ix2 ⟨r.val - (256 * h + b), by omega⟩ j) = ix2 r j :=
      idx2_ext (show 256 * h + b + 1 * (r.val - (256 * h + b)) = r.val by omega) (show 0 + 1 * j.val = j.val by omega)
    have e2 : (⟨b + (r.val - (256 * h + b)), by omega⟩ : Fin 256) = inHalf r :=
      Fin.ext (show b + (r.val - (256 * h + b)) = r.val % 256 by omega)
    have := hw ⟨r.val - (256 * h + b), by omega⟩ j
    rw [e, e2] at this
    rw [← this]
    refine (congrArg _ e.symm).trans ?_
    exact View.write_emb_of_mem (v := ouM.access (Rect.unit (s := S512x512) ![256 * h + b, 0] S128x512.size inb)) _ _
      (Finset.mem_univ _)
  · rw [if_neg hr]
    refine View.write_of_not_mem _ _ _ ?_
    rw [View.setOn_univ, show (ouM.access (Rect.unit (s := S512x512) ![256 * h + b, 0] S128x512.size inb)).set
      = (Rect.unit (s := S512x512) ![256 * h + b, 0] S128x512.size inb).set from View.set_slice_whole _ _, Rect.mem_set_unit]
    intro hm
    exact hr (hm 0)

theorem R0_row (s : Fin 128) (k : Fin 512) : R0.emb (ix2 s k) = ix2 ⟨0 + s.val, by omega⟩ k :=
  (R0_at s k).trans (congrArg (fun x => ix2 x k) (Fin.ext (show s.val = 0 + s.val by omega)))

theorem off4_eq : ∀ (c : Dev nD) (k : Fin 2), k0_off4 c (BitVec.ofNat 32 (128 * k.val)) = ![256 * ((xp c).val / 2) + 128 * k.val, 0] := by
  decide +kernel

/-- The four stores into the output. -/
theorem o1_at (r j : Fin 512) : o1 B c (ix2 r j) = if 256 * (c.val / 2) + 0 ≤ r.val ∧ r.val < 256 * (c.val / 2) + 0 + 128
    then (o0 B c (ix2 r j) : EReal) + crd B c (ix2 (inHalf r) j) else o0 B c (ix2 r j) := by
  refine add_rows (c.val / 2) 0 _ (k0_off3_eq c 0) (by omega) _ (o0 B c) (crd B c) _ (fun s k => ?_) r j
  rw [← R0_row]; pointwise [k0_pay20]; rfl

theorem o2_at (r j : Fin 512) : o2 B c (ix2 r j) = if 256 * (c.val / 2) + 128 ≤ r.val ∧ r.val < 256 * (c.val / 2) + 128 + 128
    then (o1 B c (ix2 r j) : EReal) + crd B c (ix2 (inHalf r) j) else o1 B c (ix2 r j) := by
  refine add_rows (c.val / 2) 128 _ (k0_off3_eq c 1) (by omega) _ (o1 B c) (crd B c) _ (fun s k => ?_) r j
  have := R1_at s k
  unfold hi at this
  rw [← this]; pointwise [k0_pay21]; rfl

theorem o3_at (r j : Fin 512) : o3 B c (ix2 r j)
    = if 256 * ((xp c).val / 2) + 0 ≤ r.val ∧ r.val < 256 * ((xp c).val / 2) + 0 + 128
    then (o2 B c (ix2 r j) : EReal) + crf B c (ix2 (inHalf r) j) else o2 B c (ix2 r j) := by
  have hx := xp_half c
  refine add_rows ((xp c).val / 2) 0 _ (off4_eq c 0) (by omega) _ (o2 B c) (crf B c) _ (fun s k => ?_) r j
  rw [← R0_row]; pointwise [k0_pay22]; rfl

theorem o4_at (r j : Fin 512) : o4 B c (ix2 r j)
    = if 256 * ((xp c).val / 2) + 128 ≤ r.val ∧ r.val < 256 * ((xp c).val / 2) + 128 + 128
    then (o3 B c (ix2 r j) : EReal) + crf B c (ix2 (inHalf r) j) else o3 B c (ix2 r j) := by
  refine add_rows ((xp c).val / 2) 128 _ (off4_eq c 1) (by omega) _ (o3 B c) (crf B c) _ (fun s k => ?_) r j
  have := R1_at s k
  unfold hi at this
  rw [← this]; pointwise [k0_pay1]; rfl

/-- At the end every row holds the own experts' sum and, added once, the sum that came back (on the half this device sent) or the
    sum forwarded (on the other half). -/
theorem o4_half (r j : Fin 512) : o4 B c (ix2 r j)
    = (o0 B c (ix2 r j) : EReal) + (if r.val / 256 = c.val / 2 then crd B c (ix2 (inHalf r) j) else crf B c (ix2 (inHalf r) j)) := by
  have hc : c.val < 4 := c.isLt
  have hx := xp_half c
  rw [o4_at, o3_at, o2_at, o1_at]
  by_cases h : r.val / 256 = c.val / 2
  · rw [if_pos h, if_neg (show ¬ (256 * ((xp c).val / 2) + 128 ≤ r.val ∧ _) by omega),
      if_neg (show ¬ (256 * ((xp c).val / 2) + 0 ≤ r.val ∧ _) by omega)]
    by_cases h2 : r.val % 256 < 128
    · rw [if_neg (by omega), if_pos (by omega)]
    · rw [if_pos (by omega), if_neg (by omega)]
  · rw [if_neg h, if_neg (show ¬ (256 * (c.val / 2) + 128 ≤ r.val ∧ _) by omega),
      if_neg (show ¬ (256 * (c.val / 2) + 0 ≤ r.val ∧ _) by omega)]
    by_cases h2 : r.val % 256 < 128
    · rw [if_neg (by omega), if_pos (by omega)]
    · rw [if_pos (by omega), if_neg (by omega)]

theorem w5_yp_xp : ∀ c : Dev nD, w5 (yp (xp c)) = w5 (yp c) := by decide

/-- Where the two devices of one `y` hold the same blocks, row `r` of the output is the sum of the own experts and of the `y`
    peer's, on that row. -/
theorem o4_pairs (hx : B.x (xp c) = B.x c) (ha : B.a (xp c) = B.a c) (h1 : B.w1 (yp (xp c)) = B.w1 (yp c))
    (h2 : B.w2 (yp (xp c)) = B.w2 (yp c)) (r j : Fin 512) : o4 B c (ix2 r j)
    = pair B c (B.a c (ix2 r 0)) (fun k => B.x c (ix2 r k)) j + pair B (yp c) (B.a c (ix2 r 0)) (fun k => B.x c (ix2 r k)) j := by
  have hc : c.val < 4 := c.isLt
  have hxh := xp_half c
  rw [o4_half, o0_at]
  refine congrArg _ ?_
  by_cases h : r.val / 256 = c.val / 2
  · have e : sentRow c (inHalf r) = r := Fin.ext (show 256 * (c.val / 2) + r.val % 256 = r.val by omega)
    rw [if_pos h, crd_at, e]
  · have e : sentRow (xp c) (inHalf r) = r := Fin.ext (show 256 * ((xp c).val / 2) + r.val % 256 = r.val by omega)
    rw [if_neg h]
    unfold crf
    rw [crd_at, e, hx, ha]
    unfold pair
    rw [h1, h2, w5_yp_xp]

end Cert.Moe
-- ==== Proof.Reference.lean ====
/-
What the reference computes, over the extended reals: on every row, the expert that the row's assignment names.
-/
module

public import proofs.«01_k».proof.Proof.Gen.ReferenceIdeal.Run
public import proofs.«01_k».proof.Proof.Experts

@[expose] public section

set_option maxRecDepth 16384

noncomputable section

namespace Cert.Moe.Reference

open Cert.ReferenceIdeal Cert.ReferenceIdeal.Gen
open Idealize.ShloMosaic
open Idealize.ShloMosaic.TcCoe
open Cert.Moe (expert chosen)

variable (x : Vec Ideal S1024x512 .bf16) (a : Vec Ideal S1024 .i32) (u : Vec Ideal S4x512x1024 .bf16) (d : Vec Ideal S4x1024x512 .bf16)

/-- One step of the reference: the rows assigned to expert `n`, whose weights `u` and `d` are, take that expert's result; the
    others keep `out`. -/
def step (n : BitVec 32) (u : Vec Ideal S1x512x1024 .bf16) (d : Vec Ideal S1x1024x512 .bf16) (out : Vec Ideal S1024x512 .f32) :
    Vec Ideal S1024x512 .f32 :=
  select (broadcastInDim S1024x512 ![0, 1] bcast_S1024x1_S1024x512_0_1 (broadcastInDim S1024x1 ![0] bcast_S1024_S1024x1_0
      (cmpi .eq a (broadcastInDim S1024 ![] bcast_S_S1024 (constantI S_ 32 n)))))
    (Host.dotGeneral (F := Ideal) dot_S1024x1024_S1024x512_S1024x512_1_0_0_1_n_n none
      (maximumf (Host.dotGeneral dot_S1024x512_S512x1024_S1024x1024_1_0_0_1_n_n none (extf .f32 x bitsLt_bf16_f32)
          (extf .f32 (shapeCast S512x1024 u shapeCasts_S1x512x1024_S512x1024) bitsLt_bf16_f32))
        (broadcastInDim S1024x1024 ![] bcast_S_S1024x1024 (constant S_ .f32 0x00000000#32)))
      (extf .f32 (shapeCast S1024x512 d shapeCasts_S1x1024x512_S1024x512) bitsLt_bf16_f32)) out

/-- The reference: the four experts in turn, from zero. -/
def result : Vec Ideal S1024x512 .f32 :=
  step x a 3#32 (extractStridedSlice S1x512x1024 ![3, 0, 0] u slices_S4x512x1024_S1x512x1024_3_0_0)
    (extractStridedSlice S1x1024x512 ![3, 0, 0] d slices_S4x1024x512_S1x1024x512_3_0_0)
  (step x a 2#32 (extractStridedSlice S1x512x1024 ![2, 0, 0] u slices_S4x512x1024_S1x512x1024_2_0_0)
    (extractStridedSlice S1x1024x512 ![2, 0, 0] d slices_S4x1024x512_S1x1024x512_2_0_0)
  (step x a 1#32 (extractStridedSlice S1x512x1024 ![1, 0, 0] u slices_S4x512x1024_S1x512x1024_1_0_0)
    (extractStridedSlice S1x1024x512 ![1, 0, 0] d slices_S4x1024x512_S1x1024x512_1_0_0)
  (step x a 0#32 (extractStridedSlice S1x512x1024 ![0, 0, 0] u slices_S4x512x1024_S1x512x1024_0_0_0)
    (extractStridedSlice S1x1024x512 ![0, 0, 0] d slices_S4x1024x512_S1x1024x512_0_0_0)
    (broadcastInDim S1024x512 ![] bcast_S_S1024x512 (constant (F := Ideal) S_ .f32 0x00000000#32)))))

/-- The run of the reference ends with that result and leaves its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v57)
        = result (m ((c.tc : Thread nD τ).loc main_arg0)) (m ((c.tc : Thread nD τ).loc main_arg1)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run (F := Ideal) m ρ

/-- Expert `e` of the reference's weights, on row `r`, at column `j`. -/
def ex (e : Fin 4) (r : Fin 1024) (j : Fin 512) : EReal :=
  expert (fun k => x (ix2 r k)) (fun k f => u (ix3 e k f)) (fun f => d (ix3 e f j))

/-- One step at a row and a column. -/
theorem step_at (n : BitVec 32) (u : Vec Ideal S1x512x1024 .bf16) (d : Vec Ideal S1x1024x512 .bf16) (out : Vec Ideal S1024x512 .f32)
    (r : Fin 1024) (j : Fin 512) : step x a n u d out (ix2 r j)
    = Scalar.select (IntOp.cmpi .eq (a (ix1 r)) n)
        (expert (fun k => x (ix2 r k)) (fun k f => u (ix3 0 k f)) (fun f => d (ix3 0 f j))) (out (ix2 r j)) := by
  pointwise [step]
  rfl

/-- The result at a row and a column is the sum, over the experts, of the expert's value where the assignment is that expert: at
    most one of the four is not zero. -/
theorem result_at (r : Fin 1024) (j : Fin 512) : result x a u d (ix2 r j)
    = (chosen (a (ix1 r)) 0#32 (ex x u d 0 r j) + chosen (a (ix1 r)) 1#32 (ex x u d 1 r j))
      + (chosen (a (ix1 r)) 2#32 (ex x u d 2 r j) + chosen (a (ix1 r)) 3#32 (ex x u d 3 r j)) := by
  unfold result
  rw [step_at, step_at, step_at, step_at]
  pointwise []
  unfold chosen ex
  generalize a (ix1 r) = w
  simp only [Cert.Moe.select_eq]
  by_cases h3 : w = 3#32
  · subst h3; simp
  by_cases h2 : w = 2#32
  · subst h2; simp
  by_cases h1 : w = 1#32
  · subst h1; simp
  by_cases h0 : w = 0#32
  · subst h0; simp
  simp [h0, h1, h2, h3]

end Cert.Moe.Reference
-- ==== Proof.Equation.lean ====
/-
The output of every device is its block of the reference's result.
-/
module

public import proofs.«01_k».proof.Proof.Output
public import proofs.«01_k».proof.Proof.Reference

@[expose] public section

set_option maxRecDepth 16384

noncomputable section

namespace Cert.Moe

open Cert.KernelIdeal Cert.KernelIdeal.Gen
open Idealize.ShloMosaic
open Idealize.ShloMosaic.TcCoe

/-- Row `r` of device `c`'s block of tokens, in the whole array. -/
def row (c : Dev nD) (r : Fin 512) : Fin 1024 := ⟨512 * (c.val % 2) + r.val, by omega⟩
/-- Expert `e` of device `c`'s two, among the four. -/
def exp4 (c : Dev nD) (e : Fin 2) : Fin 4 := ⟨2 * (c.val % 2) + e.val, by omega⟩

theorem row_xp (c : Dev nD) (r : Fin 512) : row (xp c) r = row c r :=
  Fin.ext (show 512 * ((xp c).val % 2) + r.val = 512 * (c.val % 2) + r.val by rw [xp_mod])
theorem exp4_xp (c : Dev nD) (e : Fin 2) : exp4 (yp (xp c)) e = exp4 (yp c) e :=
  Fin.ext (show 2 * ((yp (xp c)).val % 2) + e.val = 2 * ((yp c).val % 2) + e.val by rw [yp_mod, yp_mod, xp_mod])

/-- The words of a device's two experts, and the experts, in the first column of the mesh and in the second. -/
theorem words0 : ∀ c : Dev nD, c.val % 2 = 0 → Scalar.addi (Scalar.muli (w5 c) 2#32) 0#32 = 0#32
    ∧ Scalar.addi (Scalar.muli (w5 c) 2#32) 1#32 = 1#32 ∧ exp4 c 0 = 0 ∧ exp4 c 1 = 1 := by decide
theorem words1 : ∀ c : Dev nD, c.val % 2 = 1 → Scalar.addi (Scalar.muli (w5 c) 2#32) 0#32 = 2#32
    ∧ Scalar.addi (Scalar.muli (w5 c) 2#32) 1#32 = 3#32 ∧ exp4 c 0 = 2 ∧ exp4 c 1 = 3 := by decide

/-- What the devices' blocks are of the whole arrays `X`, `A`, `U`, `D`: rows and experts are split over the columns of the mesh. -/
structure BlocksOf (B : Blocks Ideal) (X : Vec Ideal ⟨2, ![1024, 512]⟩ .bf16) (A : Vec Ideal ⟨1, ![1024]⟩ .i32)
    (U : Vec Ideal ⟨3, ![4, 512, 1024]⟩ .bf16) (D : Vec Ideal ⟨3, ![4, 1024, 512]⟩ .bf16) : Prop where
  x : ∀ c r k, B.x c (ix2 r k) = X (ix2 (row c r) k)
  a : ∀ c r, B.a c (ix2 r 0) = A (ix1 (row c r))
  w1 : ∀ c e k f, B.w1 c (ix3 e k f) = U (ix3 (exp4 c e) k f)
  w2 : ∀ c e f j, B.w2 c (ix3 e f j) = D (ix3 (exp4 c e) f j)

variable {B : Blocks Ideal} {X : Vec Ideal ⟨2, ![1024, 512]⟩ .bf16} {A : Vec Ideal ⟨1, ![1024]⟩ .i32}
  {U : Vec Ideal ⟨3, ![4, 512, 1024]⟩ .bf16} {D : Vec Ideal ⟨3, ![4, 1024, 512]⟩ .bf16}

/-- The sum of device `e`'s two experts on a row of device `c`, in the whole arrays. -/
theorem pair_whole (h : BlocksOf B X A U D) (c e : Dev nD) (r j : Fin 512) :
    pair B e (B.a c (ix2 r 0)) (fun k => B.x c (ix2 r k)) j
    = chosen (A (ix1 (row c r))) (Scalar.addi (Scalar.muli (w5 e) 2#32) 0#32) (Reference.ex X U D (exp4 e 0) (row c r) j)
      + chosen (A (ix1 (row c r))) (Scalar.addi (Scalar.muli (w5 e) 2#32) 1#32) (Reference.ex X U D (exp4 e 1) (row c r) j) := by
  unfold pair Reference.ex
  simp only [h.x, h.a, h.w1, h.w2]

/-- The output of device `c` at a row is the reference's result at that row of the whole array. -/
theorem o4_reference (h : BlocksOf B X A U D) (c : Dev nD) (r j : Fin 512) :
    o4 B c (ix2 r j) = Reference.result X A U D (ix2 (row c r) j) := by
  have hx : B.x (xp c) = B.x c := by
    funext i; rw [eq_ix2 i]; exact (h.x _ _ _).trans ((congrArg (fun r => X (ix2 r _)) (row_xp c _)).trans (h.x _ _ _).symm)
  have ha : B.a (xp c) = B.a c := by
    funext i
    have e : i = ix2 (i 0) 0 := idx2_ext rfl (by have : (i 1).val < 1 := (i 1).isLt; show (i 1).val = 0; omega)
    rw [e]; exact (h.a _ _).trans ((congrArg (fun r => A (ix1 r)) (row_xp c _)).trans (h.a _ _).symm)
  have h1 : B.w1 (yp (xp c)) = B.w1 (yp c) := by
    funext i; rw [eq_ix3 i]; exact (h.w1 _ _ _ _).trans ((congrArg (fun e => U (ix3 e _ _)) (exp4_xp c _)).trans (h.w1 _ _ _ _).symm)
  have h2 : B.w2 (yp (xp c)) = B.w2 (yp c) := by
    funext i; rw [eq_ix3 i]; exact (h.w2 _ _ _ _).trans ((congrArg (fun e => D (ix3 e _ _)) (exp4_xp c _)).trans (h.w2 _ _ _ _).symm)
  rw [o4_pairs B c hx ha h1 h2, pair_whole h, pair_whole h, Reference.result_at]
  have hy := yp_mod c
  rcases Nat.mod_two_eq_zero_or_one c.val with hc | hc
  · obtain ⟨a0, a1, a2, a3⟩ := words0 c hc
    obtain ⟨b0, b1, b2, b3⟩ := words1 (yp c) (by omega)
    rw [a0, a1, a2, a3, b0, b1, b2, b3]
  · obtain ⟨a0, a1, a2, a3⟩ := words1 c hc
    obtain ⟨b0, b1, b2, b3⟩ := words0 (yp c) (by omega)
    rw [a0, a1, a2, a3, b0, b1, b2, b3]
    exact add_comm _ _

end Cert.Moe
-- ==== Proof.Whole.lean ====
/-
The blocks the four devices are given, as blocks of the whole arrays.
-/
module

public import proofs.«01_k».proof.Proof.Launch
public import proofs.«01_k».proof.Proof.Equation
public import Idealize.ShloMosaic.Lib.Layout

@[expose] public section

set_option maxRecDepth 16384

noncomputable section

namespace Cert.Moe

open Cert.KernelIdeal Cert.KernelIdeal.Gen
open Idealize.ShloMosaic
open Idealize.ShloMosaic.TcCoe

variable (m : (ℓ : Loc nD τ sig) → Buf (Elt Ideal) ℓ)

/-- The column of the mesh that device `c` is in. -/
theorem col (c : Dev nD) : Layout.meshLin [2, 2] c.val [1] = c.val % 2 := by revert c; decide

/-- The assignment the kernel is called on: the argument as a column. -/
theorem assignment (c : Dev nD) (r : Fin 512) : (blk m).a c (ix2 r 0) = m ((c.tc : Thread nD τ).loc main_arg1) (ix1 r) := by
  have e : V₁ m c (Proc.devRef .tc main_v1)
      = shapeCast S512x1 (m ((c.tc : Thread nD τ).loc main_arg1)) shapeCasts_S512_S512x1 := by
    unfold V₁
    rw [StableHlo.after_cons, StableHlo.after_nil, StableHlo.reshape_result]
    rfl
  refine (congrFun e (ix2 r 0)).trans ?_
  pointwise []

/-- The blocks of a launch whose arguments are blocks of the whole arrays. -/
theorem blk_of (X : Vec Ideal ⟨2, ![1024, 512]⟩ .bf16) (A : Vec Ideal ⟨1, ![1024]⟩ .i32)
    (U : Vec Ideal ⟨3, ![4, 512, 1024]⟩ .bf16) (D : Vec Ideal ⟨3, ![4, 1024, 512]⟩ .bf16)
    (hX : ∀ c : Dev nD, m ((c.tc : Thread nD τ).loc main_arg0)
      = Layout.blockN ⟨2, ![512, 512]⟩ ⟨2, ![1024, 512]⟩ (Layout.meshBlock [2, 2] ![[1], []] c) X)
    (hA : ∀ c : Dev nD, m ((c.tc : Thread nD τ).loc main_arg1)
      = Layout.blockN ⟨1, ![512]⟩ ⟨1, ![1024]⟩ (Layout.meshBlock [2, 2] ![[1]] c) A)
    (hU : ∀ c : Dev nD, m ((c.tc : Thread nD τ).loc main_arg2)
      = Layout.blockN ⟨3, ![2, 512, 1024]⟩ ⟨3, ![4, 512, 1024]⟩ (Layout.meshBlock [2, 2] ![[1], [], []] c) U)
    (hD : ∀ c : Dev nD, m ((c.tc : Thread nD τ).loc main_arg3)
      = Layout.blockN ⟨3, ![2, 1024, 512]⟩ ⟨3, ![4, 1024, 512]⟩ (Layout.meshBlock [2, 2] ![[1], [], []] c) D) :
    BlocksOf (blk m) X A U D where
  x c r k := by
    refine (congrFun (hX c) (ix2 r k)).trans (congrArg X (idx2_ext ?_ ?_))
    · show Layout.meshLin [2, 2] c.val [1] * 512 + r.val = 512 * (c.val % 2) + r.val
      rw [col]; omega
    · show 0 * 512 + k.val = k.val
      omega
  a c r := by
    rw [assignment]
    refine (congrFun (hA c) (ix1 r)).trans (congrArg A (funext fun b => Fin.ext ?_))
    fin_cases b
    show Layout.meshLin [2, 2] c.val [1] * 512 + r.val = 512 * (c.val % 2) + r.val
    rw [col]; omega
  w1 c e k f := by
    refine (congrFun (hU c) (ix3 e k f)).trans (congrArg U (idx3_ext ?_ ?_ ?_))
    · show Layout.meshLin [2, 2] c.val [1] * 2 + e.val = 2 * (c.val % 2) + e.val
      rw [col]; omega
    · show 0 * 512 + k.val = k.val
      omega
    · show 0 * 1024 + f.val = f.val
      omega
  w2 c e f j := by
    refine (congrFun (hD c) (ix3 e f j)).trans (congrArg D (idx3_ext ?_ ?_ ?_))
    · show Layout.meshLin [2, 2] c.val [1] * 2 + e.val = 2 * (c.val % 2) + e.val
      rw [col]; omega
    · show 0 * 1024 + f.val = f.val
      omega
    · show 0 * 512 + j.val = j.val
      omega

/-- The output of device `c` is its block of the reference's result. -/
theorem o4_block {B : Blocks Ideal} {X : Vec Ideal ⟨2, ![1024, 512]⟩ .bf16} {A : Vec Ideal ⟨1, ![1024]⟩ .i32}
    {U : Vec Ideal ⟨3, ![4, 512, 1024]⟩ .bf16} {D : Vec Ideal ⟨3, ![4, 1024, 512]⟩ .bf16} (h : BlocksOf B X A U D) (c : Dev nD) :
    o4 B c = Layout.blockN ⟨2, ![512, 512]⟩ ⟨2, ![1024, 512]⟩ (Layout.meshBlock [2, 2] ![[1], []] c) (Reference.result X A U D) := by
  funext i
  obtain ⟨r, j, rfl⟩ : ∃ (r j : Fin 512), i = ix2 r j := ⟨i 0, i 1, eq_ix2 i⟩
  rw [o4_reference h]
  refine congrArg (Reference.result X A U D) (idx2_ext ?_ ?_)
  · show 512 * (c.val % 2) + r.val = Layout.meshLin [2, 2] c.val [1] * 512 + r.val
    rw [col]; omega
  · show j.val = 0 * 512 + j.val
    omega

end Cert.Moe
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Whole
public import Idealize.ShloMosaic.Adequacy
public import Idealize.ShloMosaic.Init

@[expose] public section

noncomputable section

namespace Cert.Proof

open Idealize.ShloMosaic Idealize.SL.Sem Cert.Kernel

/-! ## The frames

The kernel as printed and its idealization have the same text, so the one run over any float values (`Cert.Moe.run_main`) is both
frames. -/

theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
        ∧ r.2.sem = fun _ => 0) :=
  (θ_run Cert.KernelIdeal.defs _ _).mono (fun _ h => ⟨fun c => ⟨(h.1 c).1, (h.1 c).2.1, (h.1 c).2.2.1, (h.1 c).2.2.2.1⟩, h.2⟩)
    (Cert.Moe.run_main m ρ)

/-- The two programs' tables of kernel bodies are one. -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  obtain ⟨n, hn⟩ := l
  cases n with
  | zero => obtain ⟨t, s⟩ := a; rfl
  | succ n => exact absurd hn (Nat.not_lt.2 (Nat.le_add_left _ _))
theorem defs_eq {F : FTy → Type} [FloatOps F] : Cert.Kernel.defs (F := F) = Cert.KernelIdeal.defs (F := F) := by
  unfold Cert.Kernel.defs Cert.KernelIdeal.defs
  rw [bodies_eq]
  rfl

theorem frame_kernel : Cert.quiescent_Kernel := fun m ρ _ => by
  rw [defs_eq]
  exact frame_any (F := Bits) m ρ
theorem frame_ideal : Cert.quiescent_KernelIdeal := fun m ρ _ => frame_any (F := Ideal) m ρ

/-- The reference's machine has no semaphore. -/
theorem reference_sems (f : GSem Cert.ReferenceIdeal.nD Cert.ReferenceIdeal.τ Cert.ReferenceIdeal.sig → ℤ) : f = fun _ => 0 :=
  funext fun g => by
    obtain ⟨t, sm⟩ := g
    cases sm with
    | reg q => exact q.elim0
    | dma q => exact q.elim0

theorem frame_reference : Cert.quiescent_ReferenceIdeal := fun m ρ _ =>
  (θ_run Cert.ReferenceIdeal.defs _ _).mono (fun r h => ⟨fun c => (h c).2, reference_sems r.2.sem⟩)
    (Cert.ReferenceIdeal.Value.run (F := Ideal) m ρ)

/-! ## The value -/

/-- Over the extended reals the kernel's result on every device is its block of the reference's. -/
theorem algebraic : Cert.algebraic_KernelIdeal_ReferenceIdeal := by
  intro m ρ m' ρ' _ hargs
  have hb := Cert.Moe.blk_of m _ _ _ _ (fun c => (hargs c).1) (fun c => (hargs c).2.1) (fun c => (hargs c).2.2.1) (fun c => (hargs c).2.2.2)
  refine ⟨_, ?_, (θ_run Cert.ReferenceIdeal.defs _ _).mono (fun _ h => h 0) (Cert.Moe.Reference.run m' ρ')⟩
  refine (θ_run Cert.KernelIdeal.defs _ _).mono (fun _ h c => ?_) (Cert.Moe.run_main (F := Ideal) m ρ)
  obtain ⟨h0, h1, h2, h3, ho⟩ := h.1 c
  exact ⟨ho.trans (Cert.Moe.o4_block hb c), h0, h1, h2, h3⟩

theorem claim : Cert.Claim := ⟨Cert.Kernel.Gen.facts, Cert.KernelIdeal.Gen.facts, Cert.ReferenceIdeal.Gen.facts,
  frame_kernel, frame_ideal, frame_reference, trivial, algebraic⟩

end Cert.Proof

end
